-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x8192 : Shape := ⟨2, ![4096, 8192]⟩
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S4096x8192 .f32) (main_arg1 : IVec S8192 32) : IVec S_ 1 :=
  let main_c : IVec S_ 32 := constantI S_ 32 0#32
  let main_v0 : IVec S8192 32 := broadcastInDim S8192 ![] bcast_S_S8192 main_c
  let main_v1 : IVec S8192 1 := cmpi .sge main_arg1 main_v0
  let main_c_0 : IVec S_ 32 := constantI S_ 32 8192#32
  let main_v2 : IVec S8192 32 := broadcastInDim S8192 ![] bcast_S_S8192 main_c_0
  let main_v3 : IVec S8192 1 := cmpi .slt main_arg1 main_v2
  let main_v4 : IVec S8192 1 := andi main_v1 main_v3
  let main_c_1 : IVec S_ 1 := constantI S_ 1 1#1
  let main_v5 : IVec S_ 1 := (fun x v => Host.reduce IntOp.andi x v reducesTo_S8192_S_d0 h_S_) main_v4 main_c_1
  main_v5
-- ==== Kernel.lean ====
abbrev S4096x8192 : Shape := ⟨2, ![4096, 8192]⟩
abbrev S8192 : Shape := ⟨1, ![8192]⟩
abbrev S4x8192 : Shape := ⟨2, ![4, 8192]⟩
abbrev S2x8192 : Shape := ⟨2, ![2, 8192]⟩
abbrev S_ : Shape := ⟨0, ![]⟩
abbrev S16 : Shape := ⟨1, ![16]⟩
abbrev S1x16 : Shape := ⟨2, ![1, 16]⟩

abbrev nBuf : Table → Nat
  | .hbm => 3
  | .local .scVector .vmem => 5
  | _ => 0

abbrev bufTy : (tb : Table) → Fin (nBuf tb) → BufTy
  | .hbm, ⟨0, _⟩ => ⟨S4096x8192, .f32⟩
  | .hbm, ⟨1, _⟩ => ⟨S8192, .i32⟩
  | .hbm, ⟨2, _⟩ => ⟨S4096x8192, .f32⟩
  | .local .scVector .vmem, ⟨0, _⟩ => ⟨S8192, .i32⟩
  | .local .scVector .vmem, ⟨1, _⟩ => ⟨S4x8192, .f32⟩
  | .local .scVector .vmem, ⟨2, _⟩ => ⟨S4x8192, .f32⟩
  | .local .scVector .vmem, ⟨3, _⟩ => ⟨S2x8192, .f32⟩
  | .local .scVector .vmem, ⟨4, _⟩ => ⟨S2x8192, .f32⟩
  | _, _ => ⟨S4096x8192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_0 : BitVec 32 := 0#32
  ![v3.toNat, 0]
@[reducible] def k0_t1_loop : Scf.Loop 32 :=
  let c0_i32_5 : BitVec 32 := 0#32
  let c16_i32 : BitVec 32 := 16#32
  let v9 : BitVec 32 := Scalar.addi c0_i32_5 c16_i32
  let c1_i32 : BitVec 32 := 1#32
  ⟨c0_i32_5, v9, c1_i32⟩
def k0_off2 (i : grid0.Coords) (k0_t1 : Fin k0_t1_loop.trips) (c0_i32_15 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_5 : BitVec 32 := 0#32
  let c1_i32 : BitVec 32 := 1#32
  let arg14 : BitVec 32 := Scf.iv c0_i32_5 c1_i32 k0_t1
  let c2_i32_14 : BitVec 32 := 2#32
  let v18 : BitVec 32 := Scalar.muli arg14 c2_i32_14
  let v19 : BitVec 32 := Scalar.addi v18 c0_i32_15
  let c4_i32_16 : BitVec 32 := 4#32
  let v20 : BitVec 32 := Scalar.muli v19 c4_i32_16
  let v21 : BitVec 32 := Scalar.addi v2 v20
  let c0_i32_17 : BitVec 32 := 0#32
  ![v21.toNat, 0]
def k0_cond1 (k0_t1 : Fin k0_t1_loop.trips) : BitVec 1 :=
  let c0_i32_5 : BitVec 32 := 0#32
  let c1_i32 : BitVec 32 := 1#32
  let arg14 : BitVec 32 := Scf.iv c0_i32_5 c1_i32 k0_t1
  let c2_i32_14 : BitVec 32 := 2#32
  let v18 : BitVec 32 := Scalar.muli arg14 c2_i32_14
  let c0_i32_15 : BitVec 32 := 0#32
  let v19 : BitVec 32 := Scalar.addi v18 c0_i32_15
  let c0_i32_19 : BitVec 32 := 0#32
  let v24 : BitVec 1 := Scalar.cmpi .sgt v19 c0_i32_19
  let v25 : BitVec 32 := Scalar.extui v24
  let c0_i32_20 : BitVec 32 := 0#32
  let v26 : BitVec 1 := Scalar.cmpi .ne v25 c0_i32_20
  v26

def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_5 : BitVec 32 := 0#32
  let c1_i32 : BitVec 32 := 1#32
  let arg14 : BitVec 32 := Scf.iv c0_i32_5 c1_i32 k0_t1
  let c2_i32_14 : BitVec 32 := 2#32
  let v18 : BitVec 32 := Scalar.muli arg14 c2_i32_14
  let c0_i32_15 : BitVec 32 := 0#32
  let v19 : BitVec 32 := Scalar.addi v18 c0_i32_15
  let c1_i32_67 : BitVec 32 := 1#32
  let v73 : BitVec 32 := Scalar.subi v19 c1_i32_67
  let c4_i32_68 : BitVec 32 := 4#32
  let v74 : BitVec 32 := Scalar.muli v73 c4_i32_68
  let v75 : BitVec 32 := Scalar.addi v2 v74
  let c0_i32_69 : BitVec 32 := 0#32
  let v76 : BitVec 32 := Scalar.addi v75 c0_i32_69
  let c0_i32_70 : BitVec 32 := 0#32
  ![v76.toNat, 0]
@[reducible] def k0_t2_loop : Scf.Loop 32 :=
  let c0_i32_21 : BitVec 32 := 0#32
  let c512_i32 : BitVec 32 := 512#32
  let v27 : BitVec 32 := Scalar.addi c0_i32_21 c512_i32
  let c1_i32_22 : BitVec 32 := 1#32
  ⟨c0_i32_21, v27, c1_i32_22⟩
def k0_off4 (k0_t2 : Fin k0_t2_loop.trips) : Fin 1 → Nat :=
  let c0_i32_68 : BitVec 32 := 0#32
  let c0_i32_21 : BitVec 32 := 0#32
  let c1_i32_22 : BitVec 32 := 1#32
  let arg15 : BitVec 32 := Scf.iv c0_i32_21 c1_i32_22 k0_t2
  let c1_i32_67 : BitVec 32 := 1#32
  let v73 : BitVec 32 := Scalar.muli arg15 c1_i32_67
  let v74 : BitVec 32 := Scalar.addi c0_i32_68 v73
  let c16_i32_69 : BitVec 32 := 16#32
  let v75 : BitVec 32 := Scalar.muli v74 c16_i32_69
  let v76 : Index := Scalar.indexCast v75
  ![v76.toNat]

def k0_chk1 (v77 : IVec S16 32) (v78 : IVec S16 32) : Prop :=
  (∀ a x, ((![v78, v77] : Fin 2 → IVec S16 32) a x).toNat < S4x8192.size a)
theorem k0_idx1_inb : ∀ (v77 : IVec S16 32) (v78 : IVec S16 32) (k0_hw1 : k0_chk1 v77 v78), ∀ a x, ((![v78, v77] : Fin 2 → IVec S16 32) a x).toNat < S4x8192.size a := fun v77 v78 k0_hw1 => k0_hw1
def k0_off5 (k0_t2 : Fin k0_t2_loop.trips) : Fin 2 → Nat :=
  let c0_i32_71 : BitVec 32 := 0#32
  let v80 : Index := Scalar.indexCast c0_i32_71
  let c0_i32_68 : BitVec 32 := 0#32
  let c0_i32_21 : BitVec 32 := 0#32
  let c1_i32_22 : BitVec 32 := 1#32
  let arg15 : BitVec 32 := Scf.iv c0_i32_21 c1_i32_22 k0_t2
  let c1_i32_67 : BitVec 32 := 1#32
  let v73 : BitVec 32 := Scalar.muli arg15 c1_i32_67
  let v74 : BitVec 32 := Scalar.addi c0_i32_68 v73
  let c16_i32_69 : BitVec 32 := 16#32
  let v75 : BitVec 32 := Scalar.muli v74 c16_i32_69
  let v81 : Index := Scalar.indexCast v75
  ![0, v81.toNat]

def k0_chk2 (v77 : IVec S16 32) (v83 : IVec S16 32) : Prop :=
  (∀ a x, ((![v83, v77] : Fin 2 → IVec S16 32) a x).toNat < S4x8192.size a)
theorem k0_idx2_inb : ∀ (v77 : IVec S16 32) (v83 : IVec S16 32) (k0_hw2 : k0_chk2 v77 v83), ∀ a x, ((![v83, v77] : Fin 2 → IVec S16 32) a x).toNat < S4x8192.size a := fun v77 v83 k0_hw2 => k0_hw2
def k0_off6 (k0_t2 : Fin k0_t2_loop.trips) : Fin 2 → Nat :=
  let c1_i32_73 : BitVec 32 := 1#32
  let v85 : Index := Scalar.indexCast c1_i32_73
  let c0_i32_68 : BitVec 32 := 0#32
  let c0_i32_21 : BitVec 32 := 0#32
  let c1_i32_22 : BitVec 32 := 1#32
  let arg15 : BitVec 32 := Scf.iv c0_i32_21 c1_i32_22 k0_t2
  let c1_i32_67 : BitVec 32 := 1#32
  let v73 : BitVec 32 := Scalar.muli arg15 c1_i32_67
  let v74 : BitVec 32 := Scalar.addi c0_i32_68 v73
  let c16_i32_69 : BitVec 32 := 16#32
  let v75 : BitVec 32 := Scalar.muli v74 c16_i32_69
  let v86 : Index := Scalar.indexCast v75
  ![1, v86.toNat]
def k0_off7 (i : grid0.Coords) (k0_t1 : Fin k0_t1_loop.trips) (c0_i32_15 : BitVec 32) (c0_i32_25 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_5 : BitVec 32 := 0#32
  let c1_i32 : BitVec 32 := 1#32
  let arg14 : BitVec 32 := Scf.iv c0_i32_5 c1_i32 k0_t1
  let c2_i32_14 : BitVec 32 := 2#32
  let v18 : BitVec 32 := Scalar.muli arg14 c2_i32_14
  let v19 : BitVec 32 := Scalar.addi v18 c0_i32_15
  let c4_i32_24 : BitVec 32 := 4#32
  let v28 : BitVec 32 := Scalar.muli v19 c4_i32_24
  let v29 : BitVec 32 := Scalar.addi v2 v28
  let v30 : BitVec 32 := Scalar.addi v29 c0_i32_25
  let c0_i32_26 : BitVec 32 := 0#32
  ![v30.toNat, 0]
def k0_cond2 (k0_t1 : Fin k0_t1_loop.trips) : BitVec 1 :=
  let c0_i32_5 : BitVec 32 := 0#32
  let c1_i32 : BitVec 32 := 1#32
  let arg14 : BitVec 32 := Scf.iv c0_i32_5 c1_i32 k0_t1
  let c2_i32_14 : BitVec 32 := 2#32
  let v18 : BitVec 32 := Scalar.muli arg14 c2_i32_14
  let c0_i32_15 : BitVec 32 := 0#32
  let v19 : BitVec 32 := Scalar.addi v18 c0_i32_15
  let c0_i32_28 : BitVec 32 := 0#32
  let v33 : BitVec 1 := Scalar.cmpi .sgt v19 c0_i32_28
  let v34 : BitVec 32 := Scalar.extui v33
  let c0_i32_29 : BitVec 32 := 0#32
  let v35 : BitVec 1 := Scalar.cmpi .ne v34 c0_i32_29
  v35

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_5 : BitVec 32 := 0#32
  let c1_i32 : BitVec 32 := 1#32
  let arg14 : BitVec 32 := Scf.iv c0_i32_5 c1_i32 k0_t1
  let c2_i32_14 : BitVec 32 := 2#32
  let v18 : BitVec 32 := Scalar.muli arg14 c2_i32_14
  let c0_i32_15 : BitVec 32 := 0#32
  let v19 : BitVec 32 := Scalar.addi v18 c0_i32_15
  let c1_i32_67 : BitVec 32 := 1#32
  let v73 : BitVec 32 := Scalar.subi v19 c1_i32_67
  let c4_i32_68 : BitVec 32 := 4#32
  let v74 : BitVec 32 := Scalar.muli v73 c4_i32_68
  let v75 : BitVec 32 := Scalar.addi v2 v74
  let c2_i32_69 : BitVec 32 := 2#32
  let v76 : BitVec 32 := Scalar.addi v75 c2_i32_69
  let c0_i32_70 : BitVec 32 := 0#32
  ![v76.toNat, 0]
@[reducible] def k0_t3_loop : Scf.Loop 32 :=
  let c0_i32_30 : BitVec 32 := 0#32
  let c512_i32_31 : BitVec 32 := 512#32
  let v36 : BitVec 32 := Scalar.addi c0_i32_30 c512_i32_31
  let c1_i32_32 : BitVec 32 := 1#32
  ⟨c0_i32_30, v36, c1_i32_32⟩
def k0_off9 (k0_t3 : Fin k0_t3_loop.trips) : Fin 1 → Nat :=
  let c0_i32_68 : BitVec 32 := 0#32
  let c0_i32_30 : BitVec 32 := 0#32
  let c1_i32_32 : BitVec 32 := 1#32
  let arg15 : BitVec 32 := Scf.iv c0_i32_30 c1_i32_32 k0_t3
  let c1_i32_67 : BitVec 32 := 1#32
  let v73 : BitVec 32 := Scalar.muli arg15 c1_i32_67
  let v74 : BitVec 32 := Scalar.addi c0_i32_68 v73
  let c16_i32_69 : BitVec 32 := 16#32
  let v75 : BitVec 32 := Scalar.muli v74 c16_i32_69
  let v76 : Index := Scalar.indexCast v75
  ![v76.toNat]

def k0_chk3 (v77 : IVec S16 32) (v78 : IVec S16 32) : Prop :=
  (∀ a x, ((![v78, v77] : Fin 2 → IVec S16 32) a x).toNat < S4x8192.size a)
theorem k0_idx3_inb : ∀ (v77 : IVec S16 32) (v78 : IVec S16 32) (k0_hw3 : k0_chk3 v77 v78), ∀ a x, ((![v78, v77] : Fin 2 → IVec S16 32) a x).toNat < S4x8192.size a := fun v77 v78 k0_hw3 => k0_hw3
def k0_off10 (k0_t3 : Fin k0_t3_loop.trips) : Fin 2 → Nat :=
  let c0_i32_71 : BitVec 32 := 0#32
  let v80 : Index := Scalar.indexCast c0_i32_71
  let c0_i32_68 : BitVec 32 := 0#32
  let c0_i32_30 : BitVec 32 := 0#32
  let c1_i32_32 : BitVec 32 := 1#32
  let arg15 : BitVec 32 := Scf.iv c0_i32_30 c1_i32_32 k0_t3
  let c1_i32_67 : BitVec 32 := 1#32
  let v73 : BitVec 32 := Scalar.muli arg15 c1_i32_67
  let v74 : BitVec 32 := Scalar.addi c0_i32_68 v73
  let c16_i32_69 : BitVec 32 := 16#32
  let v75 : BitVec 32 := Scalar.muli v74 c16_i32_69
  let v81 : Index := Scalar.indexCast v75
  ![0, v81.toNat]

def k0_chk4 (v77 : IVec S16 32) (v83 : IVec S16 32) : Prop :=
  (∀ a x, ((![v83, v77] : Fin 2 → IVec S16 32) a x).toNat < S4x8192.size a)
theorem k0_idx4_inb : ∀ (v77 : IVec S16 32) (v83 : IVec S16 32) (k0_hw4 : k0_chk4 v77 v83), ∀ a x, ((![v83, v77] : Fin 2 → IVec S16 32) a x).toNat < S4x8192.size a := fun v77 v83 k0_hw4 => k0_hw4
def k0_off11 (k0_t3 : Fin k0_t3_loop.trips) : Fin 2 → Nat :=
  let c1_i32_72 : BitVec 32 := 1#32
  let v85 : Index := Scalar.indexCast c1_i32_72
  let c0_i32_68 : BitVec 32 := 0#32
  let c0_i32_30 : BitVec 32 := 0#32
  let c1_i32_32 : BitVec 32 := 1#32
  let arg15 : BitVec 32 := Scf.iv c0_i32_30 c1_i32_32 k0_t3
  let c1_i32_67 : BitVec 32 := 1#32
  let v73 : BitVec 32 := Scalar.muli arg15 c1_i32_67
  let v74 : BitVec 32 := Scalar.addi c0_i32_68 v73
  let c16_i32_69 : BitVec 32 := 16#32
  let v75 : BitVec 32 := Scalar.muli v74 c16_i32_69
  let v86 : Index := Scalar.indexCast v75
  ![1, v86.toNat]
def k0_cond3 (k0_t1 : Fin k0_t1_loop.trips) : BitVec 1 :=
  let c0_i32_5 : BitVec 32 := 0#32
  let c1_i32 : BitVec 32 := 1#32
  let arg14 : BitVec 32 := Scf.iv c0_i32_5 c1_i32 k0_t1
  let c2_i32_14 : BitVec 32 := 2#32
  let v18 : BitVec 32 := Scalar.muli arg14 c2_i32_14
  let c0_i32_15 : BitVec 32 := 0#32
  let v19 : BitVec 32 := Scalar.addi v18 c0_i32_15
  let c2_i32_38 : BitVec 32 := 2#32
  let v42 : BitVec 32 := Scalar.addi v19 c2_i32_38
  let c32_i32 : BitVec 32 := 32#32
  let v43 : BitVec 1 := Scalar.cmpi .slt v42 c32_i32
  let v44 : BitVec 32 := Scalar.extui v43
  let c0_i32_39 : BitVec 32 := 0#32
  let v45 : BitVec 1 := Scalar.cmpi .ne v44 c0_i32_39
  v45

def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_5 : BitVec 32 := 0#32
  let c1_i32 : BitVec 32 := 1#32
  let arg14 : BitVec 32 := Scf.iv c0_i32_5 c1_i32 k0_t1
  let c2_i32_14 : BitVec 32 := 2#32
  let v18 : BitVec 32 := Scalar.muli arg14 c2_i32_14
  let c0_i32_15 : BitVec 32 := 0#32
  let v19 : BitVec 32 := Scalar.addi v18 c0_i32_15
  let c2_i32_67 : BitVec 32 := 2#32
  let v73 : BitVec 32 := Scalar.addi v19 c2_i32_67
  let c4_i32_68 : BitVec 32 := 4#32
  let v74 : BitVec 32 := Scalar.muli v73 c4_i32_68
  let v75 : BitVec 32 := Scalar.addi v2 v74
  let c0_i32_69 : BitVec 32 := 0#32
  ![v75.toNat, 0]
def k0_cond4 (k0_t1 : Fin k0_t1_loop.trips) : BitVec 1 :=
  let c0_i32_5 : BitVec 32 := 0#32
  let c1_i32 : BitVec 32 := 1#32
  let arg14 : BitVec 32 := Scf.iv c0_i32_5 c1_i32 k0_t1
  let c2_i32_14 : BitVec 32 := 2#32
  let v18 : BitVec 32 := Scalar.muli arg14 c2_i32_14
  let c1_i32_40 : BitVec 32 := 1#32
  let v46 : BitVec 32 := Scalar.addi v18 c1_i32_40
  let c0_i32_44 : BitVec 32 := 0#32
  let v51 : BitVec 1 := Scalar.cmpi .sgt v46 c0_i32_44
  let v52 : BitVec 32 := Scalar.extui v51
  let c0_i32_45 : BitVec 32 := 0#32
  let v53 : BitVec 1 := Scalar.cmpi .ne v52 c0_i32_45
  v53

def k0_off13 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_5 : BitVec 32 := 0#32
  let c1_i32 : BitVec 32 := 1#32
  let arg14 : BitVec 32 := Scf.iv c0_i32_5 c1_i32 k0_t1
  let c2_i32_14 : BitVec 32 := 2#32
  let v18 : BitVec 32 := Scalar.muli arg14 c2_i32_14
  let c1_i32_40 : BitVec 32 := 1#32
  let v46 : BitVec 32 := Scalar.addi v18 c1_i32_40
  let c1_i32_67 : BitVec 32 := 1#32
  let v73 : BitVec 32 := Scalar.subi v46 c1_i32_67
  let c4_i32_68 : BitVec 32 := 4#32
  let v74 : BitVec 32 := Scalar.muli v73 c4_i32_68
  let v75 : BitVec 32 := Scalar.addi v2 v74
  let c0_i32_69 : BitVec 32 := 0#32
  let v76 : BitVec 32 := Scalar.addi v75 c0_i32_69
  let c0_i32_70 : BitVec 32 := 0#32
  ![v76.toNat, 0]
@[reducible] def k0_t4_loop : Scf.Loop 32 :=
  let c0_i32_46 : BitVec 32 := 0#32
  let c512_i32_47 : BitVec 32 := 512#32
  let v54 : BitVec 32 := Scalar.addi c0_i32_46 c512_i32_47
  let c1_i32_48 : BitVec 32 := 1#32
  ⟨c0_i32_46, v54, c1_i32_48⟩
def k0_off14 (k0_t4 : Fin k0_t4_loop.trips) : Fin 1 → Nat :=
  let c0_i32_68 : BitVec 32 := 0#32
  let c0_i32_46 : BitVec 32 := 0#32
  let c1_i32_48 : BitVec 32 := 1#32
  let arg15 : BitVec 32 := Scf.iv c0_i32_46 c1_i32_48 k0_t4
  let c1_i32_67 : BitVec 32 := 1#32
  let v73 : BitVec 32 := Scalar.muli arg15 c1_i32_67
  let v74 : BitVec 32 := Scalar.addi c0_i32_68 v73
  let c16_i32_69 : BitVec 32 := 16#32
  let v75 : BitVec 32 := Scalar.muli v74 c16_i32_69
  let v76 : Index := Scalar.indexCast v75
  ![v76.toNat]

def k0_chk5 (v77 : IVec S16 32) (v78 : IVec S16 32) : Prop :=
  (∀ a x, ((![v78, v77] : Fin 2 → IVec S16 32) a x).toNat < S4x8192.size a)
theorem k0_idx5_inb : ∀ (v77 : IVec S16 32) (v78 : IVec S16 32) (k0_hw5 : k0_chk5 v77 v78), ∀ a x, ((![v78, v77] : Fin 2 → IVec S16 32) a x).toNat < S4x8192.size a := fun v77 v78 k0_hw5 => k0_hw5
def k0_off15 (k0_t4 : Fin k0_t4_loop.trips) : Fin 2 → Nat :=
  let c0_i32_71 : BitVec 32 := 0#32
  let v80 : Index := Scalar.indexCast c0_i32_71
  let c0_i32_68 : BitVec 32 := 0#32
  let c0_i32_46 : BitVec 32 := 0#32
  let c1_i32_48 : BitVec 32 := 1#32
  let arg15 : BitVec 32 := Scf.iv c0_i32_46 c1_i32_48 k0_t4
  let c1_i32_67 : BitVec 32 := 1#32
  let v73 : BitVec 32 := Scalar.muli arg15 c1_i32_67
  let v74 : BitVec 32 := Scalar.addi c0_i32_68 v73
  let c16_i32_69 : BitVec 32 := 16#32
  let v75 : BitVec 32 := Scalar.muli v74 c16_i32_69
  let v81 : Index := Scalar.indexCast v75
  ![0, v81.toNat]

def k0_chk6 (v77 : IVec S16 32) (v83 : IVec S16 32) : Prop :=
  (∀ a x, ((![v83, v77] : Fin 2 → IVec S16 32) a x).toNat < S4x8192.size a)
theorem k0_idx6_inb : ∀ (v77 : IVec S16 32) (v83 : IVec S16 32) (k0_hw6 : k0_chk6 v77 v83), ∀ a x, ((![v83, v77] : Fin 2 → IVec S16 32) a x).toNat < S4x8192.size a := fun v77 v83 k0_hw6 => k0_hw6
def k0_off16 (k0_t4 : Fin k0_t4_loop.trips) : Fin 2 → Nat :=
  let c1_i32_73 : BitVec 32 := 1#32
  let v85 : Index := Scalar.indexCast c1_i32_73
  let c0_i32_68 : BitVec 32 := 0#32
  let c0_i32_46 : BitVec 32 := 0#32
  let c1_i32_48 : BitVec 32 := 1#32
  let arg15 : BitVec 32 := Scf.iv c0_i32_46 c1_i32_48 k0_t4
  let c1_i32_67 : BitVec 32 := 1#32
  let v73 : BitVec 32 := Scalar.muli arg15 c1_i32_67
  let v74 : BitVec 32 := Scalar.addi c0_i32_68 v73
  let c16_i32_69 : BitVec 32 := 16#32
  let v75 : BitVec 32 := Scalar.muli v74 c16_i32_69
  let v86 : Index := Scalar.indexCast v75
  ![1, v86.toNat]
def k0_cond5 (k0_t1 : Fin k0_t1_loop.trips) : BitVec 1 :=
  let c0_i32_5 : BitVec 32 := 0#32
  let c1_i32 : BitVec 32 := 1#32
  let arg14 : BitVec 32 := Scf.iv c0_i32_5 c1_i32 k0_t1
  let c2_i32_14 : BitVec 32 := 2#32
  let v18 : BitVec 32 := Scalar.muli arg14 c2_i32_14
  let c1_i32_40 : BitVec 32 := 1#32
  let v46 : BitVec 32 := Scalar.addi v18 c1_i32_40
  let c0_i32_54 : BitVec 32 := 0#32
  let v60 : BitVec 1 := Scalar.cmpi .sgt v46 c0_i32_54
  let v61 : BitVec 32 := Scalar.extui v60
  let c0_i32_55 : BitVec 32 := 0#32
  let v62 : BitVec 1 := Scalar.cmpi .ne v61 c0_i32_55
  v62

def k0_off17 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_5 : BitVec 32 := 0#32
  let c1_i32 : BitVec 32 := 1#32
  let arg14 : BitVec 32 := Scf.iv c0_i32_5 c1_i32 k0_t1
  let c2_i32_14 : BitVec 32 := 2#32
  let v18 : BitVec 32 := Scalar.muli arg14 c2_i32_14
  let c1_i32_40 : BitVec 32 := 1#32
  let v46 : BitVec 32 := Scalar.addi v18 c1_i32_40
  let c1_i32_67 : BitVec 32 := 1#32
  let v73 : BitVec 32 := Scalar.subi v46 c1_i32_67
  let c4_i32_68 : BitVec 32 := 4#32
  let v74 : BitVec 32 := Scalar.muli v73 c4_i32_68
  let v75 : BitVec 32 := Scalar.addi v2 v74
  let c2_i32_69 : BitVec 32 := 2#32
  let v76 : BitVec 32 := Scalar.addi v75 c2_i32_69
  let c0_i32_70 : BitVec 32 := 0#32
  ![v76.toNat, 0]
@[reducible] def k0_t5_loop : Scf.Loop 32 :=
  let c0_i32_56 : BitVec 32 := 0#32
  let c512_i32_57 : BitVec 32 := 512#32
  let v63 : BitVec 32 := Scalar.addi c0_i32_56 c512_i32_57
  let c1_i32_58 : BitVec 32 := 1#32
  ⟨c0_i32_56, v63, c1_i32_58⟩
def k0_off18 (k0_t5 : Fin k0_t5_loop.trips) : Fin 1 → Nat :=
  let c0_i32_68 : BitVec 32 := 0#32
  let c0_i32_56 : BitVec 32 := 0#32
  let c1_i32_58 : BitVec 32 := 1#32
  let arg15 : BitVec 32 := Scf.iv c0_i32_56 c1_i32_58 k0_t5
  let c1_i32_67 : BitVec 32 := 1#32
  let v73 : BitVec 32 := Scalar.muli arg15 c1_i32_67
  let v74 : BitVec 32 := Scalar.addi c0_i32_68 v73
  let c16_i32_69 : BitVec 32 := 16#32
  let v75 : BitVec 32 := Scalar.muli v74 c16_i32_69
  let v76 : Index := Scalar.indexCast v75
  ![v76.toNat]

def k0_chk7 (v77 : IVec S16 32) (v78 : IVec S16 32) : Prop :=
  (∀ a x, ((![v78, v77] : Fin 2 → IVec S16 32) a x).toNat < S4x8192.size a)
theorem k0_idx7_inb : ∀ (v77 : IVec S16 32) (v78 : IVec S16 32) (k0_hw7 : k0_chk7 v77 v78), ∀ a x, ((![v78, v77] : Fin 2 → IVec S16 32) a x).toNat < S4x8192.size a := fun v77 v78 k0_hw7 => k0_hw7
def k0_off19 (k0_t5 : Fin k0_t5_loop.trips) : Fin 2 → Nat :=
  let c0_i32_71 : BitVec 32 := 0#32
  let v80 : Index := Scalar.indexCast c0_i32_71
  let c0_i32_68 : BitVec 32 := 0#32
  let c0_i32_56 : BitVec 32 := 0#32
  let c1_i32_58 : BitVec 32 := 1#32
  let arg15 : BitVec 32 := Scf.iv c0_i32_56 c1_i32_58 k0_t5
  let c1_i32_67 : BitVec 32 := 1#32
  let v73 : BitVec 32 := Scalar.muli arg15 c1_i32_67
  let v74 : BitVec 32 := Scalar.addi c0_i32_68 v73
  let c16_i32_69 : BitVec 32 := 16#32
  let v75 : BitVec 32 := Scalar.muli v74 c16_i32_69
  let v81 : Index := Scalar.indexCast v75
  ![0, v81.toNat]

def k0_chk8 (v77 : IVec S16 32) (v83 : IVec S16 32) : Prop :=
  (∀ a x, ((![v83, v77] : Fin 2 → IVec S16 32) a x).toNat < S4x8192.size a)
theorem k0_idx8_inb : ∀ (v77 : IVec S16 32) (v83 : IVec S16 32) (k0_hw8 : k0_chk8 v77 v83), ∀ a x, ((![v83, v77] : Fin 2 → IVec S16 32) a x).toNat < S4x8192.size a := fun v77 v83 k0_hw8 => k0_hw8
def k0_off20 (k0_t5 : Fin k0_t5_loop.trips) : Fin 2 → Nat :=
  let c1_i32_72 : BitVec 32 := 1#32
  let v85 : Index := Scalar.indexCast c1_i32_72
  let c0_i32_68 : BitVec 32 := 0#32
  let c0_i32_56 : BitVec 32 := 0#32
  let c1_i32_58 : BitVec 32 := 1#32
  let arg15 : BitVec 32 := Scf.iv c0_i32_56 c1_i32_58 k0_t5
  let c1_i32_67 : BitVec 32 := 1#32
  let v73 : BitVec 32 := Scalar.muli arg15 c1_i32_67
  let v74 : BitVec 32 := Scalar.addi c0_i32_68 v73
  let c16_i32_69 : BitVec 32 := 16#32
  let v75 : BitVec 32 := Scalar.muli v74 c16_i32_69
  let v86 : Index := Scalar.indexCast v75
  ![1, v86.toNat]
def k0_cond6 (k0_t1 : Fin k0_t1_loop.trips) : BitVec 1 :=
  let c0_i32_5 : BitVec 32 := 0#32
  let c1_i32 : BitVec 32 := 1#32
  let arg14 : BitVec 32 := Scf.iv c0_i32_5 c1_i32 k0_t1
  let c2_i32_14 : BitVec 32 := 2#32
  let v18 : BitVec 32 := Scalar.muli arg14 c2_i32_14
  let c1_i32_40 : BitVec 32 := 1#32
  let v46 : BitVec 32 := Scalar.addi v18 c1_i32_40
  let c2_i32_64 : BitVec 32 := 2#32
  let v69 : BitVec 32 := Scalar.addi v46 c2_i32_64
  let c32_i32_65 : BitVec 32 := 32#32
  let v70 : BitVec 1 := Scalar.cmpi .slt v69 c32_i32_65
  let v71 : BitVec 32 := Scalar.extui v70
  let c0_i32_66 : BitVec 32 := 0#32
  let v72 : BitVec 1 := Scalar.cmpi .ne v71 c0_i32_66
  v72

def k0_off21 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_5 : BitVec 32 := 0#32
  let c1_i32 : BitVec 32 := 1#32
  let arg14 : BitVec 32 := Scf.iv c0_i32_5 c1_i32 k0_t1
  let c2_i32_14 : BitVec 32 := 2#32
  let v18 : BitVec 32 := Scalar.muli arg14 c2_i32_14
  let c1_i32_40 : BitVec 32 := 1#32
  let v46 : BitVec 32 := Scalar.addi v18 c1_i32_40
  let c2_i32_67 : BitVec 32 := 2#32
  let v73 : BitVec 32 := Scalar.addi v46 c2_i32_67
  let c4_i32_68 : BitVec 32 := 4#32
  let v74 : BitVec 32 := Scalar.muli v73 c4_i32_68
  let v75 : BitVec 32 := Scalar.addi v2 v74
  let c0_i32_69 : BitVec 32 := 0#32
  ![v75.toNat, 0]
def k0_off22 (i : grid0.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c124_i32 : BitVec 32 := 124#32
  let v10 : BitVec 32 := Scalar.addi v2 c124_i32
  let v11 : BitVec 32 := Scalar.addi v10 c0_i32_7
  let c0_i32_8 : BitVec 32 := 0#32
  ![v11.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x8192 : Shape := ⟨2, ![4096, 8192]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192, .i32⟩
  | .hbm, ⟨2, _⟩ => ⟨S_, .i32⟩
  | .hbm, ⟨3, _⟩ => ⟨S8192, .i32⟩
  | .hbm, ⟨4, _⟩ => ⟨S8192, .i1⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S8192, .i32⟩
  | .hbm, ⟨9, _⟩ => ⟨S8192x1, .i32⟩
  | .hbm, ⟨10, _⟩ => ⟨S1, .i32⟩
  | .hbm, ⟨11, _⟩ => ⟨S_, .i32⟩
  | .hbm, ⟨12, _⟩ => ⟨S8192x1, .i32⟩
  | .hbm, ⟨13, _⟩ => ⟨S8192x1, .i1⟩
  | .hbm, ⟨14, _⟩ => ⟨S1x1, .i32⟩
  | .hbm, ⟨15, _⟩ => ⟨S8192x1, .i32⟩
  | .hbm, ⟨16, _⟩ => ⟨S8192x1, .i1⟩
  | .hbm, ⟨17, _⟩ => ⟨S8192x1, .i1⟩
  | .hbm, ⟨18, _⟩ => ⟨S_, .i1⟩
  | .hbm, ⟨19, _⟩ => ⟨S8192, .i1⟩
  | .hbm, ⟨20, _⟩ => ⟨S4096x8192, .f32⟩
  | .hbm, ⟨21, _⟩ => ⟨S4096x8192, .i1⟩
  | .hbm, ⟨22, _⟩ => ⟨S_, .f32⟩
  | .hbm, ⟨23, _⟩ => ⟨S4096x8192, .f32⟩
  | .hbm, ⟨24, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Setup.lean ====
/-
  The names the column-gather proof shares: the program as the launch theorem takes it, the ghost state, the three arrays
  and five scratch buffers, the rows a subcore owns, and the array the kernel is proved to leave.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Pointwise.Index
public import Idealize.ShloMosaic.Lib.Tactic
public import proofs.«01_k».proof.Proof.Gen.KernelIdeal
public import proofs.«01_k».proof.Proof.Gen.KernelIdeal.Skeleton

@[expose] public section

noncomputable section

namespace Cert.Proof.Cols

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the program's loops and calls. -/
abbrev ΛP : Labels := Pipeline.Sig Λ₀ (Fin 0) fun p => (pcfgs (F := F) p).Adm
/-- The program's SparseCore calls. -/
abbrev K : SparseCore.Cfg τ sig (ΛP (F := F)) 1 := sc (F := F)
/-- The program's definitions. -/
abbrev D [FloatOps F] : Defs nD τ sig (Elt F) (ΛP (F := F)) := Pipeline.defs pcfgs defs₀
/-- The kernel's body needs no loop measures. -/
abbrev 𝒱₀ : Variants := Variants.none
/-- Nor does the program. -/
abbrev 𝒱 : Variants := 𝒱₀.lift
/-- The trivial measure. -/
abbrev v₀ : 𝒱.V := Sum.inl none

/-! ## The ghost state: the launch handshakes' rounds beside the transfers' counters -/

/-- The handshakes' ghost state. -/
abbrev UH : Type := URounds (GSem nD τ sig) ℕ
/-- All the ghost state: the handshakes' and the copies' counters. -/
abbrev UU : Type := UH × Counters

local notation "𝕄" => MT nD τ sig (HIx 1) (Elt F) ℕ UU ℕ

/-- The handshakes' part of the ghost state. -/
abbrev EH : Emb UH (MT nD τ sig (HIx 1) (Elt F) ℕ UU ℕ) := embL
/-- The transfers' counters. -/
abbrev EC : UEmb Counters (MT nD τ sig (HIx 1) (Elt F) ℕ UU ℕ) := countersEmb

/-! ## Arrays, scratch, subcores -/

/-- The operand in memory. -/
abbrev xLoc (d : Dev nD) : Loc nD τ sig := (SparseCore.T d).loc main_arg0
/-- The indices in memory. -/
abbrev iLoc (d : Dev nD) : Loc nD τ sig := (SparseCore.T d).loc main_arg1
/-- The result in memory. -/
abbrev oLoc (d : Dev nD) : Loc nD τ sig := (SparseCore.T d).loc main_v0

/-- The operand, as a subcore names it. -/
abbrev xW : Memref sig .scVector .hbm S4096x8192 .f32 := Memref.whole main_arg0_scv
/-- The indices, as a subcore names them. -/
abbrev iW : Memref sig .scVector .hbm S8192 .i32 := Memref.whole main_arg1_scv
/-- The result, as a subcore names it. -/
abbrev oW : Memref sig .scVector .hbm S4096x8192 .f32 := Memref.whole main_v0_scv
/-- The subcore's copy of the indices. -/
abbrev bI : Memref sig .scVector .vmem S8192 .i32 := Memref.whole cc0_scratch0
/-- The first input buffer. -/
abbrev bA : Memref sig .scVector .vmem S4x8192 .f32 := Memref.whole cc0_scratch1
/-- The second input buffer. -/
abbrev bB : Memref sig .scVector .vmem S4x8192 .f32 := Memref.whole cc0_scratch2
/-- The first output buffer. -/
abbrev bU : Memref sig .scVector .vmem S2x8192 .f32 := Memref.whole cc0_scratch3
/-- The second output buffer. -/
abbrev bV : Memref sig .scVector .vmem S2x8192 .f32 := Memref.whole cc0_scratch4

/-- The SparseCore of a pair of coordinates. -/
abbrev cV (L : grid0.Coords) : Fin τ.nSC := (L 0).castLE hcore0
/-- The subcore of a pair of coordinates. -/
abbrev jV (L : grid0.Coords) : Fin τ.nSub := (L 1).castLE hsub0
/-- The thread of the vector subcore at grid coordinates `L` of device `d`. -/
abbrev thr (d : Dev nD) (L : grid0.Coords) : Thread nD τ := V d (cV L) (jV L)

/-- There are two SparseCores. -/
theorem L0_lt (L : grid0.Coords) : (L 0).val < 2 := (L 0).isLt
/-- There are sixteen subcores on each. -/
theorem L1_lt (L : grid0.Coords) : (L 1).val < 16 := (L 1).isLt

/-- The first of the 128 rows that the subcore at `L` computes. -/
def base (L : grid0.Coords) : ℕ := 256 * (L 1).val + 128 * (L 0).val

/-- A subcore's 128 rows lie in the array. -/
theorem base_le (L : grid0.Coords) : base L + 128 ≤ 4096 := by
  have := L0_lt L; have := L1_lt L; unfold base; omega

/-- The elements of a `[4096, 8192]` array that lie in rows `lo`, …, `hi - 1`. -/
def rows (lo hi : ℕ) : Finset S4096x8192.Idx := Finset.univ.filter fun y => lo ≤ (y 0).val ∧ (y 0).val < hi

/-- Membership in a range of rows. -/
theorem mem_rows {lo hi : ℕ} {y : S4096x8192.Idx} : y ∈ rows lo hi ↔ lo ≤ (y 0).val ∧ (y 0).val < hi := by
  simp [rows]

/-- Two adjacent ranges of rows make one. -/
theorem rows_union {lo mid hi : ℕ} (h₁ : lo ≤ mid) (h₂ : mid ≤ hi) : rows lo mid ∪ rows mid hi = rows lo hi := by
  ext y; simp only [Finset.mem_union, mem_rows]; omega

/-- Adjacent ranges of rows are disjoint. -/
theorem rows_disjoint (lo mid hi : ℕ) : Disjoint (rows lo mid) (rows mid hi) := by
  rw [Finset.disjoint_left]; intro y h h'; rw [mem_rows] at h h'; omega

/-- The empty range has no rows. -/
theorem rows_self (lo : ℕ) : rows lo lo = ∅ := by
  ext y; simp only [mem_rows, Finset.notMem_empty, iff_false]; omega

/-- All the rows are the whole array. -/
theorem rows_all : rows 0 4096 = Finset.univ := by
  ext y; simp only [mem_rows, Finset.mem_univ, iff_true]
  exact ⟨Nat.zero_le _, (y 0).isLt⟩

/-- A run of rows of `x`'s array is its upper part and its lower part, at one share and one contents. -/
theorem x_split (d : Dev nD) {lo mid hi : ℕ} (h₁ : lo ≤ mid) (h₂ : mid ≤ hi) (q : PosShare TreeShare) (f : Buf (Elt F) (xLoc d)) :
    (xLoc d ↦[rows lo hi]{q} f : sProp 𝕄) ⊣⊢ iprop((xLoc d ↦[rows lo mid]{q} f) ∗ xLoc d ↦[rows mid hi]{q} f) := by
  rw [← rows_union h₁ h₂]; exact pointsTo_union (rows_disjoint lo mid hi)

/-- A run of rows of the result's array is its upper part and its lower part, at one share and one contents. -/
theorem o_split (d : Dev nD) {lo mid hi : ℕ} (h₁ : lo ≤ mid) (h₂ : mid ≤ hi) (q : PosShare TreeShare) (f : Buf (Elt F) (oLoc d)) :
    (oLoc d ↦[rows lo hi]{q} f : sProp 𝕄) ⊣⊢ iprop((oLoc d ↦[rows lo mid]{q} f) ∗ oLoc d ↦[rows mid hi]{q} f) := by
  rw [← rows_union h₁ h₂]; exact pointsTo_union (rows_disjoint lo mid hi)

end Cert.Proof.Cols

end
-- ==== Proof.Inner.lean ====
/-
  The kernel's four inner loops, once: each fills a two-row buffer, sixteen columns a trip, with two rows of a four-row
  buffer gathered at the column numbers the index buffer holds.
-/
module

public import proofs.«01_k».proof.Proof.Setup
public import Idealize.ShloMosaic.Lib.Writes

@[expose] public section

noncomputable section

namespace Cert.Proof.Cols

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- What a trip of an inner loop does, its buffers, offsets, row numbers and side conditions as parameters. -/
def pairTrip (i : grid0.Coords) (src : Memref sig .scVector .vmem S4x8192 .f32) (dst : Memref sig .scVector .vmem S2x8192 .f32)
    (offI : Fin 1 → ℕ) (offA offB : Fin 2 → ℕ) (inbI : ∀ a, offI a + S16.size a ≤ S8192.size a)
    (inbA : ∀ a, offA a + S1x16.size a ≤ S2x8192.size a) (inbB : ∀ a, offB a + S1x16.size a ≤ S2x8192.size a)
    (rA rB : BitVec 32) (pA pB : IVec S16 32 → IVec S16 32 → Prop) (dA : ∀ v w, Decidable (pA v w)) (dB : ∀ v w, Decidable (pB v w))
    (hA : ∀ v w, pA v w → ∀ a x, ((![w, v] : Fin 2 → IVec S16 32) a x).toNat < S4x8192.size a)
    (hB : ∀ v w, pB v w → ∀ a x, ((![w, v] : Fin 2 → IVec S16 32) a x).toNat < S4x8192.size a) :
    Prog (TpuEff nD τ sig (Elt F) Λ₀ (.scVector ((i 0).castLE hcore0) ((i 1).castLE hsub0))) Unit := do
  let v : Vec F S16 .i32 ← Prog.lift (.load bI (Rect.unit (s := S8192) offI S16.size inbI).toLoadRect (View.loadsAt_vmem h_S16))
  let ha ← Prog.lift (TpuEff.assume (pA v (broadcast S16 rA)) (dA v (broadcast S16 rA)))
  let g : Vec F S16 .f32 ← SparseCore.vectorLoadIdx src ![broadcast S16 rA, v] (hA v _ ha.down) (View.loads_vmem h_S4x8192)
  let _ : Vec F S1x16 .f32 ← Prog.lift (.load dst (Rect.unit (s := S2x8192) offA S1x16.size inbA).toLoadRect (View.loadsAt_vmem h_S1x16))
  Prog.lift (.store dst (Rect.unit (s := S2x8192) offA S1x16.size inbA) (shapeCast S1x16 g shapeCasts_S16_S1x16) Finset.univ (View.stores_vmem_bits_univ h_S1x16 rfl) (.inl rfl))
  let hb ← Prog.lift (TpuEff.assume (pB v (broadcast S16 rB)) (dB v (broadcast S16 rB)))
  let g' : Vec F S16 .f32 ← SparseCore.vectorLoadIdx src ![broadcast S16 rB, v] (hB v _ hb.down) (View.loads_vmem h_S4x8192)
  let _ : Vec F S1x16 .f32 ← Prog.lift (.load dst (Rect.unit (s := S2x8192) offB S1x16.size inbB).toLoadRect (View.loadsAt_vmem h_S1x16))
  Prog.lift (.store dst (Rect.unit (s := S2x8192) offB S1x16.size inbB) (shapeCast S1x16 g' shapeCasts_S16_S1x16) Finset.univ (View.stores_vmem_bits_univ h_S1x16 rfl) (.inl rfl))
  pure ⟨⟩

section Bodies

variable (i : grid0.Coords) (v2 c0 c1 v18 v19 v42 v46 : BitVec 32) (p : Fin k0_t1_loop.trips)

/-- The first inner loop's trip is `pairTrip` from the first input buffer's upper rows to the first output buffer. -/
theorem t2_body_eq (k : Fin k0_t2_loop.trips) :
    k0_t2_body (F := F) i xW (Memref.isWhole_whole _) iW (Memref.isWhole_whole _) oW (Memref.isWhole_whole _) bI (Memref.isWhole_whole _)
        bA (Memref.isWhole_whole _) bB (Memref.isWhole_whole _) bU (Memref.isWhole_whole _) bV (Memref.isWhole_whole _)
        cc0_scratch5 cc0_scratch6 cc0_scratch7 cc0_scratch8 cc0_scoped0 v2 c0 c1 p k ()
      = pairTrip i bA bU (k0_off4 k) (k0_off5 k) (k0_off6 k) (k0_off4_inb k) (k0_off5_inb k) (k0_off6_inb k) 0#32 1#32
          k0_chk1 k0_chk2 k0_chk1.dec k0_chk2.dec k0_idx1_inb k0_idx2_inb := rfl

/-- The second inner loop's trip: the first input buffer's lower rows to the second output buffer. -/
theorem t3_body_eq (k : Fin k0_t3_loop.trips) :
    k0_t3_body (F := F) i xW (Memref.isWhole_whole _) iW (Memref.isWhole_whole _) oW (Memref.isWhole_whole _) bI (Memref.isWhole_whole _)
        bA (Memref.isWhole_whole _) bB (Memref.isWhole_whole _) bU (Memref.isWhole_whole _) bV (Memref.isWhole_whole _)
        cc0_scratch5 cc0_scratch6 cc0_scratch7 cc0_scratch8 cc0_scoped0 v2 c0 c1 p k ()
      = pairTrip i bA bV (k0_off9 k) (k0_off10 k) (k0_off11 k) (k0_off9_inb k) (k0_off10_inb k) (k0_off11_inb k) 2#32 3#32
          k0_chk3 k0_chk4 k0_chk3.dec k0_chk4.dec k0_idx3_inb k0_idx4_inb := rfl

/-- The third: the second input buffer's upper rows to the first output buffer. -/
theorem t4_body_eq (k : Fin k0_t4_loop.trips) :
    k0_t4_body (F := F) i xW (Memref.isWhole_whole _) iW (Memref.isWhole_whole _) oW (Memref.isWhole_whole _) bI (Memref.isWhole_whole _)
        bA (Memref.isWhole_whole _) bB (Memref.isWhole_whole _) bU (Memref.isWhole_whole _) bV (Memref.isWhole_whole _)
        cc0_scratch5 cc0_scratch6 cc0_scratch7 cc0_scratch8 cc0_scoped0 v2 p v18 v19 v42 v46 k ()
      = pairTrip i bB bU (k0_off14 k) (k0_off15 k) (k0_off16 k) (k0_off14_inb k) (k0_off15_inb k) (k0_off16_inb k) 0#32 1#32
          k0_chk5 k0_chk6 k0_chk5.dec k0_chk6.dec k0_idx5_inb k0_idx6_inb := rfl

/-- The fourth: the second input buffer's lower rows to the second output buffer. -/
theorem t5_body_eq (k : Fin k0_t5_loop.trips) :
    k0_t5_body (F := F) i xW (Memref.isWhole_whole _) iW (Memref.isWhole_whole _) oW (Memref.isWhole_whole _) bI (Memref.isWhole_whole _)
        bA (Memref.isWhole_whole _) bB (Memref.isWhole_whole _) bU (Memref.isWhole_whole _) bV (Memref.isWhole_whole _)
        cc0_scratch5 cc0_scratch6 cc0_scratch7 cc0_scratch8 cc0_scoped0 v2 p v18 v19 v42 v46 k ()
      = pairTrip i bB bV (k0_off18 k) (k0_off19 k) (k0_off20 k) (k0_off18_inb k) (k0_off19_inb k) (k0_off20_inb k) 2#32 3#32
          k0_chk7 k0_chk8 k0_chk7.dec k0_chk8.dec k0_idx7_inb k0_idx8_inb := rfl

end Bodies

/-! ## What a trip stores -/

/-- Two rows of a four-row block, `a` and `b`, each with its columns taken at the numbers `ix`. -/
def pairOf (v : S4x8192.Idx → F .f32) (ix : S8192.Idx → BitVec 32) (hix : ∀ j, (ix j).toNat < 8192) (a b : Fin 4) : S2x8192.Idx → F .f32 :=
  fun y => v (ix2 (if (y 0).val = 0 then a else b) ⟨(ix (ix1 (y 1))).toNat, hix _⟩)

/-- Reading a memref through the rectangle of its whole shape is reading it. -/
theorem read_access_all {sp : Space} {s : Shape} {e : EltTy} (mr : Memref sig .scVector sp s e) (f : mr.view.ty.Contents (Elt F)) :
    (mr.access (.whole s)).read (Elt F) f = mr.view.read (Elt F) f := by
  funext x
  show mr.view.read (Elt F) f ((Rect.whole s).emb x) = _
  congr 1
  exact Rect.emb_eq_of_coords _ _ _ fun a => by simp [Rect.whole]

/-- A loaded run of sixteen index words is the words at its columns. -/
theorem idx_word (off : Fin 1 → ℕ) (inb : ∀ a, off a + S16.size a ≤ S8192.size a) (ix : S8192.Idx → BitVec 32) (x : S16.Idx)
    (j : Fin 8192) (hj : j.val = off 0 + (x 0).val) :
    bI.view.readAt (Elt F) (Rect.unit (s := S8192) off S16.size inb).toLoadRect ix x = ix (ix1 j) := by
  refine (View.readAt_apply _ _ _).trans ?_
  show ix ((Rect.unit (s := S8192) off S16.size inb).toLoadRect.idx x) = ix (ix1 j)
  congr 1
  funext a
  obtain rfl : a = 0 := Subsingleton.elim _ _
  apply Fin.ext
  show off 0 + 1 * (x 0).val = j.val
  omega

/-- Before trip `k` of an inner loop the buffer holds the wanted values in its first `16 k` columns. -/
def Filled (dst : Memref sig .scVector .vmem S2x8192 .f32) (G : S2x8192.Idx → F .f32) (k : ℕ) (g : dst.view.ty.Contents (Elt F)) : Prop :=
  ∀ y, (y 1).val < 16 * k → dst.view.read (Elt F) g y = G y

/-- The two stores of trip `k` take the first `16 k` columns being right to the first `16 (k + 1)`. -/
theorem filled_step (dst : Memref sig .scVector .vmem S2x8192 .f32) (G : S2x8192.Idx → F .f32) (k : ℕ)
    (g : dst.view.ty.Contents (Elt F)) (h : Filled dst G k g) (inbA : ∀ a, (![0, 16 * k] : Fin 2 → ℕ) a + S1x16.size a ≤ S2x8192.size a)
    (inbB : ∀ a, (![1, 16 * k] : Fin 2 → ℕ) a + S1x16.size a ≤ S2x8192.size a) (wA wB : S1x16.Idx → F .f32)
    (hA : ∀ (x : S1x16.Idx) (y : S2x8192.Idx), (y 0).val = 0 → (y 1).val = 16 * k + (x 1).val → wA x = G y)
    (hB : ∀ (x : S1x16.Idx) (y : S2x8192.Idx), (y 0).val = 1 → (y 1).val = 16 * k + (x 1).val → wB x = G y) :
    Filled dst G (k + 1) (dst.view.writes (Elt F) g
      [⟨Rect.unit (s := S2x8192) ![1, 16 * k] S1x16.size inbB, wB⟩, ⟨Rect.unit (s := S2x8192) ![0, 16 * k] S1x16.size inbA, wA⟩]) := by
  intro y hy
  have hy0 : (y 0).val < 2 := (y 0).isLt
  by_cases hlt : (y 1).val < 16 * k
  · rw [View.read_writes_cons_miss_of_axis _ _ _ _ y 1 (16 * k) 16 rfl rfl rfl (.inl hlt),
      View.read_writes_cons_miss_of_axis _ _ _ _ y 1 (16 * k) 16 rfl rfl rfl (.inl hlt)]
    exact h y hlt
  · have hx : (y 1).val - 16 * k < 16 := by omega
    by_cases h0 : (y 0).val = 0
    · rw [View.read_writes_cons_miss_of_axis _ _ _ _ y 0 1 1 rfl rfl rfl (.inl (by omega)),
        View.read_writes_cons_hit_of_coords _ _ _ _ _ (ix2 0 ⟨_, hx⟩) y]
      · exact hA _ y h0 (by rw [ix2_1]; show _ = 16 * k + ((y 1).val - 16 * k); omega)
      · intro a
        match a with
        | ⟨0, _⟩ => show (y 0).val = 0 + 1 * 0; omega
        | ⟨1, _⟩ => show (y 1).val = 16 * k + 1 * ((y 1).val - 16 * k); omega
    · rw [View.read_writes_cons_hit_of_coords _ _ _ _ _ (ix2 0 ⟨_, hx⟩) y]
      · exact hB _ y (by omega) (by rw [ix2_1]; show _ = 16 * k + ((y 1).val - 16 * k); omega)
      · intro a
        match a with
        | ⟨0, _⟩ => show (y 0).val = 1 + 1 * 0; omega
        | ⟨1, _⟩ => show (y 1).val = 16 * k + 1 * ((y 1).val - 16 * k); omega

/-- The vector a trip stores into one row is that row of `pairOf`. -/
theorem lane_value (v : S4x8192.Idx → F .f32) (ix : S8192.Idx → BitVec 32) (hix : ∀ j, (ix j).toNat < 8192) (a b c : Fin 4) (r : ℕ)
    (hc : c = if r = 0 then a else b) (k : ℕ) (inb : ∀ a, (![16 * k] : Fin 1 → ℕ) a + S16.size a ≤ S8192.size a) (w : BitVec 32) (hw : w.toNat = c.val)
    (h : ∀ a x, ((![broadcast S16 w, bI.view.readAt (Elt F) (Rect.unit (s := S8192) ![16 * k] S16.size inb).toLoadRect ix] : Fin 2 → IVec S16 32) a x).toNat < S4x8192.size a)
    (x : S1x16.Idx) (y : S2x8192.Idx) (h0 : (y 0).val = r) (h1 : (y 1).val = 16 * k + (x 1).val) :
    shapeCast S1x16 (loadIdx (F := F) (e := .f32) v ![broadcast S16 w, bI.view.readAt (Elt F) (Rect.unit (s := S8192) ![16 * k] S16.size inb).toLoadRect ix] h) shapeCasts_S16_S1x16 x
      = pairOf v ix hix a b y := by
  rw [shapeCast_addUnit_apply]
  unfold loadIdx pairOf
  congr 1
  refine Shape.idx_ext₂ ?_ ?_
  · show w.toNat = _
    rw [hw, hc, ix2_0, h0]
  · rw [ix2_1]
    show (bI.view.readAt (Elt F) (Rect.unit (s := S8192) ![16 * k] S16.size inb).toLoadRect ix (fun a => x a.succ)).toNat = _
    rw [idx_word ![16 * k] inb ix (fun a => x a.succ) (y 1) h1]

/-! ## The trip and the loop -/

section Run

variable (d : Dev nD) (i : grid0.Coords)

/-- What an inner loop keeps before trip `k`: the index words, the source block, and the destination right in its first `16 k` columns. -/
def pairInv (src : Memref sig .scVector .vmem S4x8192 .f32) (dst : Memref sig .scVector .vmem S2x8192 .f32) (a b : Fin 4)
    (ix : Buf (Elt F) (bI.view.loc (thr d i))) (hix : ∀ j : S8192.Idx, (ix j : BitVec 32).toNat < 8192) (fs : Buf (Elt F) (src.view.loc (thr d i))) (k : ℕ) : sProp 𝕄 :=
  iprop((bI.view.loc (thr d i) ↦{fullShare} ix) ∗ (src.view.loc (thr d i) ↦{fullShare} fs)
    ∗ ∃ g, ⌜Filled dst (pairOf (src.view.read (Elt F) fs) ix hix a b) k g⌝ ∗ dst.view.loc (thr d i) ↦{fullShare} g)

/-- One trip: the index words and the source block kept, sixteen more columns of both rows filled. -/
theorem wp_pairTrip (src : Memref sig .scVector .vmem S4x8192 .f32) (dst : Memref sig .scVector .vmem S2x8192 .f32)
    (k : ℕ) {offI : Fin 1 → ℕ} {offA offB : Fin 2 → ℕ} (hoI : offI = ![16 * k]) (hoA : offA = ![0, 16 * k]) (hoB : offB = ![1, 16 * k])
    {inbI : ∀ a, offI a + S16.size a ≤ S8192.size a} {inbA : ∀ a, offA a + S1x16.size a ≤ S2x8192.size a} {inbB : ∀ a, offB a + S1x16.size a ≤ S2x8192.size a}
    {rA rB : BitVec 32} {pA pB : IVec S16 32 → IVec S16 32 → Prop} {dA : ∀ v w, Decidable (pA v w)} {dB : ∀ v w, Decidable (pB v w)}
    {hA : ∀ v w, pA v w → ∀ a x, ((![w, v] : Fin 2 → IVec S16 32) a x).toNat < S4x8192.size a}
    {hB : ∀ v w, pB v w → ∀ a x, ((![w, v] : Fin 2 → IVec S16 32) a x).toNat < S4x8192.size a}
    (kA : ∀ v w, (∀ a x, ((![w, v] : Fin 2 → IVec S16 32) a x).toNat < S4x8192.size a) → pA v w)
    (kB : ∀ v w, (∀ a x, ((![w, v] : Fin 2 → IVec S16 32) a x).toNat < S4x8192.size a) → pB v w)
    (a b : Fin 4) (ha : rA.toNat = a.val) (hb : rB.toNat = b.val)
    (ix : Buf (Elt F) (bI.view.loc (thr d i))) (hix : ∀ j : S8192.Idx, (ix j : BitVec 32).toNat < 8192) (fs : Buf (Elt F) (src.view.loc (thr d i))) :
    pairInv d i src dst a b ix hix fs k
      ⊢ (wp frame (wpE (defs₀ (F := F)) 𝒱₀ (thr d i) none) Set.univ
          (pairTrip i src dst offI offA offB inbI inbA inbB rA rB pA pB dA dB hA hB)
          fun _ => pairInv d i src dst a b ix hix fs (k + 1) : sProp 𝕄) := by
  subst hoI hoA hoB
  have hv : ∀ x, (bI.view.readAt (Elt F) (Rect.unit (s := S8192) ![16 * k] S16.size inbI).toLoadRect ix x : BitVec 32).toNat < 8192 := fun x => by
    have hx : (x 0).val < 16 := (x 0).isLt
    have h8 : 16 * k + 16 ≤ 8192 := inbI 0
    rw [idx_word _ inbI ix x ⟨16 * k + (x 0).val, by omega⟩ rfl]
    exact hix _
  have hin : ∀ (w : BitVec 32) (c : Fin 4), w.toNat = c.val → ∀ a x, ((![broadcast S16 w, bI.view.readAt (Elt F) (Rect.unit (s := S8192) ![16 * k] S16.size inbI).toLoadRect ix] : Fin 2 → IVec S16 32) a x).toNat < S4x8192.size a := by
    intro w c hw a x
    match a with
    | ⟨0, _⟩ => show w.toNat < 4; rw [hw]; exact c.isLt
    | ⟨1, _⟩ => exact hv x
  unfold pairTrip pairInv
  simp only [Prog.lift, Prog.bind_op, Prog.bind_ret, Prog.pure_eq_ret]
  iintro ⟨Hi, Hs, %g, %hg, Hd⟩
  iapply (wp_load 𝒱₀ (thr d i) none Set.univ (m := bI) (S := Finset.univ) (Finset.subset_univ _)) $$ Hi; iintro Hi
  rw [wp_assume_of _ _ _ _ (kA _ _ (hin rA a ha))]
  iapply (SparseCore.wp_vectorLoadIdx 𝒱₀ (thr d i) none Set.univ (base := src) (S := Finset.univ) (q := fullShare) (Finset.subset_univ _)) $$ Hs; iintro Hs
  iapply (wp_load 𝒱₀ (thr d i) none Set.univ (m := dst) (S := Finset.univ) (Finset.subset_univ _)) $$ Hd; iintro Hd
  iapply (wp_store_writes₀ 𝒱₀ (thr d i) none Set.univ (m := dst) (r := Rect.unit (s := S2x8192) ![0, 16 * k] S1x16.size inbA) (f := g) (S := Finset.univ) (Finset.subset_univ _)) $$ Hd; iintro Hd
  rw [wp_assume_of _ _ _ _ (kB _ _ (hin rB b hb))]
  iapply (SparseCore.wp_vectorLoadIdx 𝒱₀ (thr d i) none Set.univ (base := src) (S := Finset.univ) (q := fullShare) (Finset.subset_univ _)) $$ Hs; iintro Hs
  iapply (wp_load 𝒱₀ (thr d i) none Set.univ (m := dst) (S := Finset.univ) (Finset.subset_univ _)) $$ Hd; iintro Hd
  iapply (wp_store_writes 𝒱₀ (thr d i) none Set.univ (m := dst) (r := Rect.unit (s := S2x8192) ![1, 16 * k] S1x16.size inbB) (f := g) (S := Finset.univ) (Finset.subset_univ _)) $$ Hd; iintro Hd
  rw [wp_ret]; imodintro
  isplitl [Hi]; · iexact Hi
  isplitl [Hs]; · iexact Hs
  iexists _
  isplitr; swap; · iexact Hd
  ipureintro
  refine filled_step dst _ k g hg inbA inbB _ _ ?_ ?_
  · intro x y h0 h1
    rw [read_access_all]
    exact lane_value _ ix hix a b a 0 (by simp) k inbI rA ha _ x y h0 h1
  · intro x y h0 h1
    rw [read_access_all]
    exact lane_value _ ix hix a b b 1 (by simp) k inbI rB hb _ x y h0 h1

/-- A loop of 512 such trips, from any destination to one right in every column. -/
theorem wp_pairLoop (src : Memref sig .scVector .vmem S4x8192 .f32) (dst : Memref sig .scVector .vmem S2x8192 .f32) (a b : Fin 4)
    (ix : Buf (Elt F) (bI.view.loc (thr d i))) (hix : ∀ j : S8192.Idx, (ix j : BitVec 32).toNat < 8192) (fs : Buf (Elt F) (src.view.loc (thr d i)))
    (l : Scf.Loop 32) (ok : l.OK) (hl : l.trips = 512)
    (body : Fin l.trips → Unit → Prog (TpuEff nD τ sig (Elt F) Λ₀ (.scVector ((i 0).castLE hcore0) ((i 1).castLE hsub0))) Unit)
    (hbody : ∀ k : Fin l.trips, pairInv d i src dst a b ix hix fs k.val
      ⊢ wp frame (wpE (defs₀ (F := F)) 𝒱₀ (thr d i) none) Set.univ (body k ()) fun _ => pairInv d i src dst a b ix hix fs (k.val + 1)) :
    iprop((bI.view.loc (thr d i) ↦{fullShare} ix) ∗ (src.view.loc (thr d i) ↦{fullShare} fs) ∗ ∃ g, dst.view.loc (thr d i) ↦{fullShare} g)
      ⊢ (wp frame (wpE (defs₀ (F := F)) 𝒱₀ (thr d i) none) Set.univ (Scf.Loop.for l ok ⟨⟩ body)
          fun _ => iprop((bI.view.loc (thr d i) ↦{fullShare} ix) ∗ (src.view.loc (thr d i) ↦{fullShare} fs)
            ∗ ∃ g, ⌜dst.view.read (Elt F) g = pairOf (src.view.read (Elt F) fs) ix hix a b⌝ ∗ dst.view.loc (thr d i) ↦{fullShare} g) : sProp 𝕄) := by
  refine BIBase.Entails.trans ?_ (Scf.wp_for frame (wpE (defs₀ (F := F)) 𝒱₀ (thr d i) none) Set.univ l.lb l.ub l.st ok ⟨⟩ body
    (fun k _ => pairInv d i src dst a b ix hix fs k) (fun k _ => hbody k))
  iintro ⟨Hi, Hs, %g, Hd⟩
  isplitl
  · unfold pairInv
    isplitl [Hi]; · iexact Hi
    isplitl [Hs]; · iexact Hs
    iexists g
    isplitr
    · ipureintro; intro y hy; exact absurd hy (by omega)
    · iexact Hd
  · iintro %_ HI
    unfold pairInv
    icases HI with ⟨Hi, Hs, %g, %hg, Hd⟩
    isplitl [Hi]; · iexact Hi
    isplitl [Hs]; · iexact Hs
    iexists g
    isplitr
    · ipureintro; funext y
      have hy : (y 1).val < 8192 := (y 1).isLt
      exact hg y (by show (y 1).val < 16 * l.trips; rw [hl]; omega)
    · iexact Hd

/-- The first inner loop. -/
theorem wp_t2 (v2 c0 c1 : BitVec 32) (p : Fin k0_t1_loop.trips) (ix : Buf (Elt F) (bI.view.loc (thr d i))) (hix : ∀ j : S8192.Idx, (ix j : BitVec 32).toNat < 8192) (fs : Buf (Elt F) (bA.view.loc (thr d i))) :
    iprop((bI.view.loc (thr d i) ↦{fullShare} ix) ∗ (bA.view.loc (thr d i) ↦{fullShare} fs) ∗ ∃ g, bU.view.loc (thr d i) ↦{fullShare} g)
      ⊢ (wp frame (wpE (defs₀ (F := F)) 𝒱₀ (thr d i) none) Set.univ
          (Scf.Loop.for k0_t2_loop k0_t2_ok ⟨⟩ (k0_t2_body (F := F) i xW (Memref.isWhole_whole _) iW (Memref.isWhole_whole _) oW (Memref.isWhole_whole _) bI (Memref.isWhole_whole _)
            bA (Memref.isWhole_whole _) bB (Memref.isWhole_whole _) bU (Memref.isWhole_whole _) bV (Memref.isWhole_whole _)
            cc0_scratch5 cc0_scratch6 cc0_scratch7 cc0_scratch8 cc0_scoped0 v2 c0 c1 p))
          fun _ => iprop((bI.view.loc (thr d i) ↦{fullShare} ix) ∗ (bA.view.loc (thr d i) ↦{fullShare} fs)
            ∗ ∃ g, ⌜bU.view.read (Elt F) g = pairOf (bA.view.read (Elt F) fs) ix hix 0 1⌝ ∗ bU.view.loc (thr d i) ↦{fullShare} g) : sProp 𝕄) :=
  wp_pairLoop d i bA bU 0 1 ix hix fs _ _ (by decide) _ fun k => by
    rw [t2_body_eq]
    exact wp_pairTrip d i bA bU k.val (rA := 0#32) (rB := 1#32) (pA := k0_chk1) (pB := k0_chk2) (k0_off4_eq k) (k0_off5_eq k) (k0_off6_eq k) (fun _ _ h => h) (fun _ _ h => h) 0 1 rfl rfl ix hix fs

/-- The second inner loop. -/
theorem wp_t3 (v2 c0 c1 : BitVec 32) (p : Fin k0_t1_loop.trips) (ix : Buf (Elt F) (bI.view.loc (thr d i))) (hix : ∀ j : S8192.Idx, (ix j : BitVec 32).toNat < 8192) (fs : Buf (Elt F) (bA.view.loc (thr d i))) :
    iprop((bI.view.loc (thr d i) ↦{fullShare} ix) ∗ (bA.view.loc (thr d i) ↦{fullShare} fs) ∗ ∃ g, bV.view.loc (thr d i) ↦{fullShare} g)
      ⊢ (wp frame (wpE (defs₀ (F := F)) 𝒱₀ (thr d i) none) Set.univ
          (Scf.Loop.for k0_t3_loop k0_t3_ok ⟨⟩ (k0_t3_body (F := F) i xW (Memref.isWhole_whole _) iW (Memref.isWhole_whole _) oW (Memref.isWhole_whole _) bI (Memref.isWhole_whole _)
            bA (Memref.isWhole_whole _) bB (Memref.isWhole_whole _) bU (Memref.isWhole_whole _) bV (Memref.isWhole_whole _)
            cc0_scratch5 cc0_scratch6 cc0_scratch7 cc0_scratch8 cc0_scoped0 v2 c0 c1 p))
          fun _ => iprop((bI.view.loc (thr d i) ↦{fullShare} ix) ∗ (bA.view.loc (thr d i) ↦{fullShare} fs)
            ∗ ∃ g, ⌜bV.view.read (Elt F) g = pairOf (bA.view.read (Elt F) fs) ix hix 2 3⌝ ∗ bV.view.loc (thr d i) ↦{fullShare} g) : sProp 𝕄) :=
  wp_pairLoop d i bA bV 2 3 ix hix fs _ _ (by decide) _ fun k => by
    rw [t3_body_eq]
    exact wp_pairTrip d i bA bV k.val (rA := 2#32) (rB := 3#32) (pA := k0_chk3) (pB := k0_chk4) (k0_off9_eq k) (k0_off10_eq k) (k0_off11_eq k) (fun _ _ h => h) (fun _ _ h => h) 2 3 rfl rfl ix hix fs

/-- The third inner loop. -/
theorem wp_t4 (v2 : BitVec 32) (p : Fin k0_t1_loop.trips) (v18 v19 v42 v46 : BitVec 32) (ix : Buf (Elt F) (bI.view.loc (thr d i))) (hix : ∀ j : S8192.Idx, (ix j : BitVec 32).toNat < 8192) (fs : Buf (Elt F) (bB.view.loc (thr d i))) :
    iprop((bI.view.loc (thr d i) ↦{fullShare} ix) ∗ (bB.view.loc (thr d i) ↦{fullShare} fs) ∗ ∃ g, bU.view.loc (thr d i) ↦{fullShare} g)
      ⊢ (wp frame (wpE (defs₀ (F := F)) 𝒱₀ (thr d i) none) Set.univ
          (Scf.Loop.for k0_t4_loop k0_t4_ok ⟨⟩ (k0_t4_body (F := F) i xW (Memref.isWhole_whole _) iW (Memref.isWhole_whole _) oW (Memref.isWhole_whole _) bI (Memref.isWhole_whole _)
            bA (Memref.isWhole_whole _) bB (Memref.isWhole_whole _) bU (Memref.isWhole_whole _) bV (Memref.isWhole_whole _)
            cc0_scratch5 cc0_scratch6 cc0_scratch7 cc0_scratch8 cc0_scoped0 v2 p v18 v19 v42 v46))
          fun _ => iprop((bI.view.loc (thr d i) ↦{fullShare} ix) ∗ (bB.view.loc (thr d i) ↦{fullShare} fs)
            ∗ ∃ g, ⌜bU.view.read (Elt F) g = pairOf (bB.view.read (Elt F) fs) ix hix 0 1⌝ ∗ bU.view.loc (thr d i) ↦{fullShare} g) : sProp 𝕄) :=
  wp_pairLoop d i bB bU 0 1 ix hix fs _ _ (by decide) _ fun k => by
    rw [t4_body_eq]
    exact wp_pairTrip d i bB bU k.val (rA := 0#32) (rB := 1#32) (pA := k0_chk5) (pB := k0_chk6) (k0_off14_eq k) (k0_off15_eq k) (k0_off16_eq k) (fun _ _ h => h) (fun _ _ h => h) 0 1 rfl rfl ix hix fs

/-- The fourth inner loop. -/
theorem wp_t5 (v2 : BitVec 32) (p : Fin k0_t1_loop.trips) (v18 v19 v42 v46 : BitVec 32) (ix : Buf (Elt F) (bI.view.loc (thr d i))) (hix : ∀ j : S8192.Idx, (ix j : BitVec 32).toNat < 8192) (fs : Buf (Elt F) (bB.view.loc (thr d i))) :
    iprop((bI.view.loc (thr d i) ↦{fullShare} ix) ∗ (bB.view.loc (thr d i) ↦{fullShare} fs) ∗ ∃ g, bV.view.loc (thr d i) ↦{fullShare} g)
      ⊢ (wp frame (wpE (defs₀ (F := F)) 𝒱₀ (thr d i) none) Set.univ
          (Scf.Loop.for k0_t5_loop k0_t5_ok ⟨⟩ (k0_t5_body (F := F) i xW (Memref.isWhole_whole _) iW (Memref.isWhole_whole _) oW (Memref.isWhole_whole _) bI (Memref.isWhole_whole _)
            bA (Memref.isWhole_whole _) bB (Memref.isWhole_whole _) bU (Memref.isWhole_whole _) bV (Memref.isWhole_whole _)
            cc0_scratch5 cc0_scratch6 cc0_scratch7 cc0_scratch8 cc0_scoped0 v2 p v18 v19 v42 v46))
          fun _ => iprop((bI.view.loc (thr d i) ↦{fullShare} ix) ∗ (bB.view.loc (thr d i) ↦{fullShare} fs)
            ∗ ∃ g, ⌜bV.view.read (Elt F) g = pairOf (bB.view.read (Elt F) fs) ix hix 2 3⌝ ∗ bV.view.loc (thr d i) ↦{fullShare} g) : sProp 𝕄) :=
  wp_pairLoop d i bB bV 2 3 ix hix fs _ _ (by decide) _ fun k => by
    rw [t5_body_eq]
    exact wp_pairTrip d i bB bV k.val (rA := 2#32) (rB := 3#32) (pA := k0_chk7) (pB := k0_chk8) (k0_off18_eq k) (k0_off19_eq k) (k0_off20_eq k) (fun _ _ h => h) (fun _ _ h => h) 2 3 rfl rfl ix hix fs

end Run

end Cert.Proof.Cols

end
-- ==== Proof.Copies.lean ====
/-
  The kernel's copies between the arrays and a subcore's buffers: what each leaves, and the one rule by which the proof
  starts or awaits each of them.
-/
module

public import proofs.«01_k».proof.Proof.Inner

@[expose] public section

noncomputable section

namespace Cert.Proof.Cols

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Slices are runs of rows -/

/-- Four rows of `x`'s array, as the kernel's copies slice it. -/
abbrev xS (off : Fin 2 → ℕ) (inb : ∀ a, off a + S4x8192.size a ≤ S4096x8192.size a) : Memref sig .scVector .hbm S4x8192 .f32 :=
  xW.slice (Rect.unit (s := S4096x8192) off S4x8192.size inb) (fun _ => rfl)

/-- Two rows of the result's array, as the kernel's copies slice it. -/
abbrev oS (off : Fin 2 → ℕ) (inb : ∀ a, off a + S2x8192.size a ≤ S4096x8192.size a) : Memref sig .scVector .hbm S2x8192 .f32 :=
  oW.slice (Rect.unit (s := S4096x8192) off S2x8192.size inb) (fun _ => rfl)

/-- A four-row slice of the operand, from row `r` on, holds exactly those four rows. -/
theorem xS_set {off : Fin 2 → ℕ} (inb : ∀ a, off a + S4x8192.size a ≤ S4096x8192.size a) {r : ℕ} (h : off = ![r, 0]) :
    (xS off inb).view.set = rows r (r + 4) := by
  subst h
  refine (View.set_slice_whole _ _).trans ?_
  ext y
  refine (Rect.mem_set_unit).trans ?_
  rw [mem_rows]
  have h1 : (y 1).val < 8192 := (y 1).isLt
  constructor
  · intro h; exact h 0
  · intro h a
    fin_cases a
    · exact h
    · exact ⟨Nat.zero_le _, by show (y 1).val < 0 + 8192; omega⟩

/-- A two-row slice of the result, from row `r` on, holds exactly those two rows. -/
theorem oS_set {off : Fin 2 → ℕ} (inb : ∀ a, off a + S2x8192.size a ≤ S4096x8192.size a) {r : ℕ} (h : off = ![r, 0]) :
    (oS off inb).view.set = rows r (r + 2) := by
  subst h
  refine (View.set_slice_whole _ _).trans ?_
  ext y
  refine (Rect.mem_set_unit).trans ?_
  rw [mem_rows]
  have h1 : (y 1).val < 8192 := (y 1).isLt
  constructor
  · intro h; exact h 0
  · intro h a
    fin_cases a
    · exact h
    · exact ⟨Nat.zero_le _, by show (y 1).val < 0 + 8192; omega⟩

/-- `v` holds rows `r`, …, `r + 3` of `xf`. -/
def IsBlock (xf : S4096x8192.Idx → F .f32) (r : ℕ) (v : S4x8192.Idx → F .f32) : Prop :=
  ∀ (y : S4x8192.Idx) (z : S4096x8192.Idx), (z 0).val = r + (y 0).val → (z 1).val = (y 1).val → v y = xf z

/-- `v` holds rows `r` and `r + 1` of `g`. -/
def IsPair (g : S4096x8192.Idx → F .f32) (r : ℕ) (v : S2x8192.Idx → F .f32) : Prop :=
  ∀ (y : S2x8192.Idx) (z : S4096x8192.Idx), (z 0).val = r + (y 0).val → (z 1).val = (y 1).val → v y = g z

/-- The array the kernel is proved to leave: column `j` is `x`'s column `idx j`. -/
def gathered (xf : S4096x8192.Idx → F .f32) (ix : S8192.Idx → BitVec 32) (hix : ∀ j, (ix j).toNat < 8192) : S4096x8192.Idx → F .f32 :=
  fun y => xf (ix2 (y 0) ⟨(ix (ix1 (y 1))).toNat, hix _⟩)

/-- Two gathered rows of a block of `x` are two rows of the gathered array. -/
theorem pairOf_isPair {xf : S4096x8192.Idx → F .f32} {ix : S8192.Idx → BitVec 32} {hix : ∀ j, (ix j).toNat < 8192} {r r' : ℕ}
    {v : S4x8192.Idx → F .f32} (hv : IsBlock xf r v) (a b : Fin 4) (ha : r' = r + a.val) (hb : b.val = a.val + 1) :
    IsPair (gathered xf ix hix) r' (pairOf v ix hix a b) := by
  intro y z h0 h1
  have hy : (y 0).val < 2 := (y 0).isLt
  have hz : z 1 = y 1 := Fin.ext h1
  unfold pairOf gathered
  refine hv _ _ ?_ ?_
  · show (z 0).val = r + (if (y 0).val = 0 then a else b).val
    split <;> omega
  · show (ix (ix1 (z 1))).toNat = (ix (ix1 (y 1))).toNat
    rw [hz]

/-- What a copy of four rows of `x`'s array reads. -/
theorem xS_read {off : Fin 2 → ℕ} (inb : ∀ a, off a + S4x8192.size a ≤ S4096x8192.size a) {r : ℕ} (h : off = ![r, 0])
    (xf : S4096x8192.Idx → F .f32) : IsBlock xf r ((xS off inb).view.read (Elt F) xf) := by
  subst h
  intro y z h0 h1
  show xf ((Rect.unit (s := S4096x8192) ![r, 0] S4x8192.size inb).emb y) = xf z
  congr 1
  refine Shape.idx_ext₂ ?_ ?_
  · show r + 1 * (y 0).val = (z 0).val
    omega
  · show 0 + 1 * (y 1).val = (z 1).val
    omega

/-- A write over a whole view puts on each of its elements what goes there. -/
theorem write_on {κ : Kind} {sp : Space} {s : Shape} {e : EltTy} {v : View sig κ sp s e} {f : v.ty.Contents (Elt F)} {w : s.Idx → Elt F e} {z : v.ty.Idx}
    (hz : z ∈ v.set) {a : (Elt F) v.ty.elt} (h : ∀ y, v.emb y = z → _root_.cast (congrArg (Elt F) v.elt_eq.symm) (w y) = a) :
    v.write (Elt F) f w Finset.univ z = a := by
  obtain ⟨y, -, rfl⟩ := Finset.mem_map.mp hz
  exact (View.write_emb_of_mem f w (Finset.mem_univ y)).trans (h y rfl)

/-- What a copy onto two rows of the result's array leaves there. -/
theorem oS_write {off : Fin 2 → ℕ} (inb : ∀ a, off a + S2x8192.size a ≤ S4096x8192.size a) {r : ℕ} (h : off = ![r, 0])
    (f g : S4096x8192.Idx → F .f32) {v : S2x8192.Idx → F .f32} (hv : IsPair g r v) (z : S4096x8192.Idx) (hz : z ∈ rows r (r + 2)) :
    (oS off inb).view.write (Elt F) f v Finset.univ z = g z := by
  refine write_on (v := (oS off inb).view) (f := f) (w := v) (by rw [oS_set inb h]; exact hz) ?_
  subst h
  rintro y rfl
  refine hv y _ ?_ ?_
  · show r + 1 * (y 0).val = r + (y 0).val
    omega
  · show 0 + 1 * (y 1).val = (y 1).val
    omega

/-! ## Starting and awaiting the copies -/

/-- What a subcore owes, with every wait it has made beyond `W` at no level. -/
def Owes (c : Thread nD τ) (O : CellTallies nD τ sig (HIx 1)) (W : Waits sig (HIx 1)) : sProp 𝕄 :=
  iprop(∃ W', ⌜∀ p ∈ W', p ∈ W ∨ p.2 = none⌝ ∗ owes c O W')

section Copies

variable (d : Dev nD) (i : grid0.Coords)

/-- A copy of rows `r`, …, `r + 3` of `x` into `dst` under way. -/
def InFlight (dst : Memref sig .scVector .vmem S4x8192 .f32) (sm : DmaSem sig) (xf : Buf (Elt F) (xLoc d)) (r : ℕ) : sProp 𝕄 :=
  Transfers.Flight (EC (F := F)) (thr d i) (.dma sm) none dst.view.dmaCredit
    iprop((∃ f, ⌜IsBlock xf r (dst.view.read (Elt F) f)⌝ ∗ dst.view.loc (thr d i) ↦{fullShare} f) ∗ xLoc d ↦[rows r (r + 4)]{fullShare} xf)

/-- The credit of a copy onto two rows of the result. -/
abbrev outCredit : ℕ := sig.dmaCredit .scVector (Kind.scVector.table .hbm) (main_v0_scv : Ref sig .scVector).idx S2x8192 .f32

/-- A copy of `src` onto rows `r` and `r + 1` of the result under way, leaving `g` there. -/
def OutFlight (src : Memref sig .scVector .vmem S2x8192 .f32) (sm : DmaSem sig) (g : Buf (Elt F) (oLoc d)) (r : ℕ) : sProp 𝕄 :=
  Transfers.Flight (EC (F := F)) (thr d i) (.dma sm) none outCredit
    iprop((oLoc d ↦[rows r (r + 2)]{fullShare} g) ∗ ∃ f, src.view.loc (thr d i) ↦{fullShare} f)

/-- Owning a four-row slice of the operand is owning those rows of it. -/
theorem x_slice {off : Fin 2 → ℕ} (inb : ∀ a, off a + S4x8192.size a ≤ S4096x8192.size a) {r : ℕ} (h : off = ![r, 0]) (xf : Buf (Elt F) (xLoc d)) :
    (xLoc d ↦[rows r (r + 4)]{fullShare} xf : sProp 𝕄) = ((xS off inb).view.loc (thr d i) ↦[(xS off inb).view.set]{fullShare} xf) := by
  rw [xS_set inb h]

/-- What a finished copy of four rows of `x` hands back, in the proof's words. -/
theorem inDone (dst : Memref sig .scVector .vmem S4x8192 .f32) {off : Fin 2 → ℕ}
    (inb : ∀ a, off a + S4x8192.size a ≤ S4096x8192.size a) {r : ℕ} (h : off = ![r, 0]) (xf : Buf (Elt F) (xLoc d))
    (f : Buf (Elt F) (dst.view.loc (thr d i))) :
    iprop((dst.view.loc (thr d i) ↦{fullShare} dst.view.write (Elt F) f ((xS off inb).view.read (Elt F) xf) Finset.univ)
        ∗ ((xS off inb).view.loc (thr d i) ↦[(xS off inb).view.set]{fullShare} xf))
      ⊢ (iprop((∃ f, ⌜IsBlock xf r (dst.view.read (Elt F) f)⌝ ∗ dst.view.loc (thr d i) ↦{fullShare} f) ∗ xLoc d ↦[rows r (r + 4)]{fullShare} xf) : sProp 𝕄) := by
  have hw : IsBlock xf r (dst.view.read (Elt F) (dst.view.write (Elt F) f ((xS off inb).view.read (Elt F) xf) Finset.univ)) := by
    rw [View.read_write_univ]; exact xS_read inb h xf
  rw [← x_slice d i inb h xf]
  generalize dst.view.write (Elt F) f ((xS off inb).view.read (Elt F) xf) Finset.univ = w at hw ⊢
  iintro ⟨Hd, Hx⟩
  isplitl [Hd]
  · iexists w
    isplitr
    · ipureintro; exact hw
    · iexact Hd
  · iexact Hx

/-- What a finished copy onto two rows of the result hands back, in the proof's words. -/
theorem outDone (src : Memref sig .scVector .vmem S2x8192 .f32) (hu : src.view.set = Finset.univ) {off : Fin 2 → ℕ}
    (inb : ∀ a, off a + S2x8192.size a ≤ S4096x8192.size a) {r : ℕ} (h : off = ![r, 0]) (g f₀ : Buf (Elt F) (oLoc d))
    {f : Buf (Elt F) (src.view.loc (thr d i))} (hf : IsPair g r (src.view.read (Elt F) f)) :
    iprop(((oS off inb).view.loc (thr d i) ↦[rows r (r + 2)]{fullShare} (oS off inb).view.write (Elt F) f₀ (src.view.read (Elt F) f) Finset.univ)
        ∗ (src.view.loc (thr d i) ↦[src.view.set]{fullShare} f))
      ⊢ (iprop((oLoc d ↦[rows r (r + 2)]{fullShare} g) ∗ ∃ f, src.view.loc (thr d i) ↦{fullShare} f) : sProp 𝕄) := by
  have e : ((oS off inb).view.loc (thr d i) ↦[rows r (r + 2)]{fullShare} (oS off inb).view.write (Elt F) f₀ (src.view.read (Elt F) f) Finset.univ : sProp 𝕄)
      = (oLoc d ↦[rows r (r + 2)]{fullShare} g) := pointsTo_congr fun z hz => oS_write inb h f₀ g hf z hz
  rw [e, hu]
  iintro ⟨Ho, Hs⟩
  isplitl [Ho]; · iexact Ho
  iexists f; iexact Hs

variable {α : Type}

/-- Starting a copy of four rows of `x` into a buffer. -/
theorem wp_startIn {Q : α → sProp 𝕄} (dst : Memref sig .scVector .vmem S4x8192 .f32) (sm : DmaSem sig) {off : Fin 2 → ℕ}
    {inb : ∀ a, off a + S4x8192.size a ≤ S4096x8192.size a} {r : ℕ} (h : off = ![r, 0]) (xf : Buf (Elt F) (xLoc d))
    {hsrc : (xS off inb).view.WordExact} {hdst : dst.view.WordExact} {hsem : DmaTarget.Typed (nD := nD) (p := (thr d i).2) .hbm (.dma sm) (.here dst)}
    {k : PUnit → Prog (TpuEff nD τ sig (Elt F) Λ₀ (thr d i).2) α} :
    iprop((xLoc d ↦[rows r (r + 4)]{fullShare} xf) ∗ (∃ f, dst.view.loc (thr d i) ↦{fullShare} f) ∗ semVal (thr d i, SemLoc.dma sm) 0)
      ⊢ (iprop((InFlight d i dst sm xf r -∗ wp frame (wpE (defs₀ (F := F)) 𝒱₀ (thr d i) none) Set.univ (k ⟨⟩) Q)
          -∗ wp frame (wpE (defs₀ (F := F)) 𝒱₀ (thr d i) none) Set.univ (.op (.enqueueDmaAs (xS off inb) (.here dst) .same (.dma sm) hsrc hdst hsem) k) Q) : sProp 𝕄) := by
  iintro ⟨Hx, ⟨%f, Hf⟩, Hs⟩ Hk
  iapply (Transfers.wp_dmaLocal (EC (F := F)) 𝒱₀ (thr d i) none (src := xS off inb) (dst := dst) (fs := xf) (q := fullShare) (Sd := Finset.univ) (fd := f) none dst.view.dmaCredit rfl
    (View.dmaCredit_pos _ (by decide)) (Finset.subset_univ _)) $$ [Hx Hf Hs]
  · isplitl [Hx]
    · iapply (BIBase.Entails.of_eq (x_slice d i inb h xf)) $$ Hx
    isplitl [Hf]; · iexact Hf
    iexact Hs
  iintro Hfl
  iapply Hk
  unfold InFlight
  iapply (Transfers.Flight_mono (EC (F := F)) (thr d i) (inDone d i dst inb h xf f)) $$ Hfl

/-- Starting a copy of a buffer onto two rows of the result. -/
theorem wp_startOut {Q : α → sProp 𝕄} (src : Memref sig .scVector .vmem S2x8192 .f32) (hu : src.view.set = Finset.univ) (sm : DmaSem sig) {off : Fin 2 → ℕ}
    {inb : ∀ a, off a + S2x8192.size a ≤ S4096x8192.size a} {r : ℕ} (h : off = ![r, 0]) (g f₀ : Buf (Elt F) (oLoc d))
    {f : Buf (Elt F) (src.view.loc (thr d i))} (hf : IsPair g r (src.view.read (Elt F) f))
    {hsrc : src.view.WordExact} {hdst : (oS off inb).view.WordExact} {hsem : DmaTarget.Typed (nD := nD) (p := (thr d i).2) .vmem (.dma sm) (.here (oS off inb))}
    {k : PUnit → Prog (TpuEff nD τ sig (Elt F) Λ₀ (thr d i).2) α} :
    iprop((src.view.loc (thr d i) ↦{fullShare} f) ∗ (oLoc d ↦[rows r (r + 2)]{fullShare} f₀) ∗ semVal (thr d i, SemLoc.dma sm) 0)
      ⊢ (iprop((OutFlight d i src sm g r -∗ wp frame (wpE (defs₀ (F := F)) 𝒱₀ (thr d i) none) Set.univ (k ⟨⟩) Q)
          -∗ wp frame (wpE (defs₀ (F := F)) 𝒱₀ (thr d i) none) Set.univ (.op (.enqueueDmaAs src (.here (oS off inb)) .same (.dma sm) hsrc hdst hsem) k) Q) : sProp 𝕄) := by
  iintro ⟨Hf, Ho, Hs⟩ Hk
  iapply (Transfers.wp_dmaLocal (EC (F := F)) 𝒱₀ (thr d i) none (src := src) (dst := oS off inb) (fs := f) (q := fullShare) (Sd := rows r (r + 2)) (fd := f₀) none outCredit rfl
    (View.dmaCredit_pos (oS off inb).view (by decide)) (oS_set inb h).subset) $$ [Hf Ho Hs]
  · isplitl [Hf]
    · iapply (BIBase.Entails.of_eq (congrArg (fun I => (src.view.loc (thr d i) ↦[I]{fullShare} f : sProp 𝕄)) hu.symm)) $$ Hf
    isplitl [Ho]; · iexact Ho
    iexact Hs
  iintro Hfl
  iapply Hk
  unfold OutFlight
  iapply (Transfers.Flight_mono (EC (F := F)) (thr d i) (outDone d i src hu inb h g f₀ hf)) $$ Hfl

/-- Awaiting a copy of four rows of `x`. -/
theorem wp_waitIn {Q : α → sProp 𝕄} (dst : Memref sig .scVector .vmem S4x8192 .f32) (sm : DmaSem sig) (xf : Buf (Elt F) (xLoc d)) (r : ℕ)
    {O : CellTallies nD τ sig (HIx 1)} {W : Waits sig (HIx 1)} {sp : Space} {s : Shape} {e : EltTy}
    {srcw : Memref sig (thr d i).2.kind sp s e} {hsrc : srcw.view.WordExact} {hdst : dst.view.WordExact}
    {k : PUnit → Prog (TpuEff nD τ sig (Elt F) Λ₀ (thr d i).2) α} :
    iprop(InFlight d i dst sm xf r ∗ Owes (thr d i) O W ∗ Transfers.MayWaits (thr d i) none O)
      ⊢ (iprop((iprop((∃ f, ⌜IsBlock xf r (dst.view.read (Elt F) f)⌝ ∗ dst.view.loc (thr d i) ↦{fullShare} f)
              ∗ (xLoc d ↦[rows r (r + 4)]{fullShare} xf) ∗ semVal (thr d i, SemLoc.dma sm) 0 ∗ Owes (thr d i) O W)
            -∗ wp frame (wpE (defs₀ (F := F)) 𝒱₀ (thr d i) none) Set.univ (k ⟨⟩) Q)
          -∗ wp frame (wpE (defs₀ (F := F)) 𝒱₀ (thr d i) none) Set.univ (.op (.waitDma2 sm srcw dst hsrc hdst) k) Q) : sProp 𝕄) := by
  unfold InFlight Owes
  iintro ⟨Hfl, ⟨%W', %hW, Ho⟩, Hmw⟩ Hk
  iapply (Transfers.wp_waitLocalO (EC (F := F)) 𝒱₀ (thr d i) none (dstw := dst) (srcw := srcw) none rfl) $$ [Hfl Ho Hmw]
  · isplitl [Hfl]; · iexact Hfl
    isplitl [Ho]; · iexact Ho
    iapply (Transfers.MayWaits.elim (SemLoc.dma sm)) $$ Hmw
  iintro ⟨⟨Hd, Hx⟩, Hs, Ho⟩
  iapply Hk
  isplitl [Hd]; · iexact Hd
  isplitl [Hx]; · iexact Hx
  isplitl [Hs]; · iexact Hs
  iexists (insert (SemLoc.dma sm, none) W')
  isplitr
  · ipureintro
    intro p hp
    rcases Finset.mem_insert.mp hp with rfl | hp
    · exact .inr rfl
    · exact hW p hp
  · iexact Ho

/-- Awaiting a copy onto two rows of the result. -/
theorem wp_waitOut {Q : α → sProp 𝕄} (src : Memref sig .scVector .vmem S2x8192 .f32) (sm : DmaSem sig) (g : Buf (Elt F) (oLoc d)) (r : ℕ)
    {O : CellTallies nD τ sig (HIx 1)} {W : Waits sig (HIx 1)} {off : Fin 2 → ℕ} {inb : ∀ a, off a + S2x8192.size a ≤ S4096x8192.size a}
    {hsrc : src.view.WordExact} {hdst : (oS off inb).view.WordExact}
    {k : PUnit → Prog (TpuEff nD τ sig (Elt F) Λ₀ (thr d i).2) α} :
    iprop(OutFlight d i src sm g r ∗ Owes (thr d i) O W ∗ Transfers.MayWaits (thr d i) none O)
      ⊢ (iprop((iprop((oLoc d ↦[rows r (r + 2)]{fullShare} g) ∗ (∃ f, src.view.loc (thr d i) ↦{fullShare} f)
              ∗ semVal (thr d i, SemLoc.dma sm) 0 ∗ Owes (thr d i) O W)
            -∗ wp frame (wpE (defs₀ (F := F)) 𝒱₀ (thr d i) none) Set.univ (k ⟨⟩) Q)
          -∗ wp frame (wpE (defs₀ (F := F)) 𝒱₀ (thr d i) none) Set.univ (.op (.waitDma2 sm src (oS off inb) hsrc hdst) k) Q) : sProp 𝕄) := by
  unfold OutFlight Owes
  iintro ⟨Hfl, ⟨%W', %hW, Ho⟩, Hmw⟩ Hk
  iapply (Transfers.wp_waitLocalO (EC (F := F)) 𝒱₀ (thr d i) none (dstw := oS off inb) (srcw := src) none (N := outCredit) rfl) $$ [Hfl Ho Hmw]
  · isplitl [Hfl]; · iexact Hfl
    isplitl [Ho]; · iexact Ho
    iapply (Transfers.MayWaits.elim (SemLoc.dma sm)) $$ Hmw
  iintro ⟨⟨Hx, Hd⟩, Hs, Ho⟩
  iapply Hk
  isplitl [Hx]; · iexact Hx
  isplitl [Hd]; · iexact Hd
  isplitl [Hs]; · iexact Hs
  iexists (insert (SemLoc.dma sm, none) W')
  isplitr
  · ipureintro
    intro p hp
    rcases Finset.mem_insert.mp hp with rfl | hp
    · exact .inr rfl
    · exact hW p hp
  · iexact Ho

/-! ## Copies started or awaited only on some trips -/

/-- An input buffer with its copy under way if `b`, else idle. -/
def InChan (b : Prop) [Decidable b] (dst : Memref sig .scVector .vmem S4x8192 .f32) (sm : DmaSem sig) (xf : Buf (Elt F) (xLoc d)) (r : ℕ) : sProp 𝕄 :=
  if b then InFlight d i dst sm xf r else iprop((∃ f, dst.view.loc (thr d i) ↦{fullShare} f) ∗ semVal (thr d i, SemLoc.dma sm) 0)

/-- An output buffer with its copy under way if `b`, else idle. -/
def OutChan (b : Prop) [Decidable b] (src : Memref sig .scVector .vmem S2x8192 .f32) (sm : DmaSem sig) (g : Buf (Elt F) (oLoc d)) (r : ℕ) : sProp 𝕄 :=
  if b then OutFlight d i src sm g r else iprop((∃ f, src.view.loc (thr d i) ↦{fullShare} f) ∗ semVal (thr d i, SemLoc.dma sm) 0)

/-- Rows `r` and `r + 1` of the result, done, if `b`. -/
def DoneIf (b : Prop) [Decidable b] (g : Buf (Elt F) (oLoc d)) (r : ℕ) : sProp 𝕄 :=
  if b then iprop(oLoc d ↦[rows r (r + 2)]{fullShare} g) else iprop(emp)

/-- A copy of four rows of `x` started under a condition. -/
theorem wp_startInIf {Q : α → sProp 𝕄} (dst : Memref sig .scVector .vmem S4x8192 .f32) (sm : DmaSem sig) {c : Prop} [Decidable c] (b : Prop) [Decidable b] (hcb : c ↔ b)
    {off : Fin 2 → ℕ} {inb : c → ∀ a, off a + S4x8192.size a ≤ S4096x8192.size a} {r hi : ℕ} (h : off = ![r, 0])
    (hb : b → r + 4 ≤ hi) (hnb : ¬ b → hi ≤ r) (xf : Buf (Elt F) (xLoc d))
    {hsrc : ∀ hc, (xS off (inb hc)).view.WordExact} {hdst : c → dst.view.WordExact} {hsem : c → DmaTarget.Typed (nD := nD) (p := (thr d i).2) .hbm (.dma sm) (.here dst)}
    {J : Prog (TpuEff nD τ sig (Elt F) Λ₀ (thr d i).2) α} :
    iprop((xLoc d ↦[rows r hi]{fullShare} xf) ∗ (∃ f, dst.view.loc (thr d i) ↦{fullShare} f) ∗ semVal (thr d i, SemLoc.dma sm) 0)
      ⊢ (iprop((iprop(InChan d i b dst sm xf r ∗ (xLoc d ↦[rows (r + 4) hi]{fullShare} xf)) -∗ wp frame (wpE (defs₀ (F := F)) 𝒱₀ (thr d i) none) Set.univ J Q)
          -∗ wp frame (wpE (defs₀ (F := F)) 𝒱₀ (thr d i) none) Set.univ
              (if hc : c then .op (.enqueueDmaAs (xS off (inb hc)) (.here dst) .same (.dma sm) (hsrc hc) (hdst hc) (hsem hc)) fun _ => J else J) Q) : sProp 𝕄) := by
  unfold InChan
  by_cases hc : c
  · have hB := hcb.mp hc
    rw [dif_pos hc]; simp only [if_pos hB]
    iintro ⟨Hx, Hd, Hs⟩ Hk
    ihave Hx := (x_split (F := F) d (Nat.le_add_right r 4) (hb hB) fullShare xf).1 $$ Hx
    icases Hx with ⟨Hx, Hr⟩
    iapply (wp_startIn d i dst sm h xf) $$ [Hx Hd Hs]
    · isplitl [Hx]; · iexact Hx
      isplitl [Hd]; · iexact Hd
      iexact Hs
    iintro Hfl
    iapply Hk
    isplitl [Hfl]; · iexact Hfl
    iexact Hr
  · have hB : ¬ b := fun h => hc (hcb.mpr h)
    rw [dif_neg hc]; simp only [if_neg hB]
    have e : rows r hi = rows (r + 4) hi := by
      have := hnb hB
      ext y; simp only [mem_rows]; omega
    rw [e]
    iintro ⟨Hx, Hd, Hs⟩ Hk
    iapply Hk
    isplitl [Hd Hs]
    · isplitl [Hd]; · iexact Hd
      iexact Hs
    iexact Hx

/-- A copy onto two rows of the result awaited under a condition. -/
theorem wp_waitOutIf {Q : α → sProp 𝕄} (src : Memref sig .scVector .vmem S2x8192 .f32) (sm : DmaSem sig) {c : Prop} [Decidable c] (b : Prop) [Decidable b] (hcb : c ↔ b)
    (g : Buf (Elt F) (oLoc d)) (r : ℕ)
    {O : CellTallies nD τ sig (HIx 1)} {W : Waits sig (HIx 1)} {off : c → Fin 2 → ℕ} {inb : ∀ hc : c, ∀ a, off hc a + S2x8192.size a ≤ S4096x8192.size a}
    {hsrc : c → src.view.WordExact} {hdst : ∀ hc, (oS (off hc) (inb hc)).view.WordExact}
    {J : Prog (TpuEff nD τ sig (Elt F) Λ₀ (thr d i).2) α} :
    iprop(OutChan d i b src sm g r ∗ Owes (thr d i) O W ∗ Transfers.MayWaits (thr d i) none O)
      ⊢ (iprop((iprop(DoneIf d b g r ∗ (∃ f, src.view.loc (thr d i) ↦{fullShare} f)
              ∗ semVal (thr d i, SemLoc.dma sm) 0 ∗ Owes (thr d i) O W)
            -∗ wp frame (wpE (defs₀ (F := F)) 𝒱₀ (thr d i) none) Set.univ J Q)
          -∗ wp frame (wpE (defs₀ (F := F)) 𝒱₀ (thr d i) none) Set.univ
              (if hc : c then .op (.waitDma2 sm src (oS (off hc) (inb hc)) (hsrc hc) (hdst hc)) fun _ => J else J) Q) : sProp 𝕄) := by
  unfold OutChan DoneIf
  by_cases hc : c
  · have hB := hcb.mp hc
    rw [dif_pos hc]; simp only [if_pos hB]
    exact wp_waitOut d i src sm g r (O := O) (W := W) (off := off hc) (inb := inb hc) (hsrc := hsrc hc) (hdst := hdst hc) (k := fun _ => J) (Q := Q)
  · have hB : ¬ b := fun h => hc (hcb.mpr h)
    rw [dif_neg hc]; simp only [if_neg hB]
    iintro ⟨⟨Hd, Hs⟩, Ho, -⟩ Hk
    iapply Hk
    isplitr; · iempintro
    isplitl [Hd]; · iexact Hd
    isplitl [Hs]; · iexact Hs
    iexact Ho

end Copies

end Cert.Proof.Cols

end
-- ==== Proof.Trip.lean ====
/-
  One trip of the kernel's main loop: two four-row blocks of `x` are awaited, each gathered into the two output buffers,
  and each buffer's copy to the result started; what holds between trips is `TripInv`.
-/
module

public import proofs.«01_k».proof.Proof.Copies

@[expose] public section

noncomputable section

namespace Cert.Proof.Cols

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Trip

variable (d : Dev nD) (i : grid0.Coords)

/-- A program known to take `A` to `B`, run before a continuation that needs only `B`. -/
theorem wp_seq {α β : Type} {A : sProp 𝕄} {B : α → sProp 𝕄} {Q : β → sProp 𝕄} {P : Prog (TpuEff nD τ sig (Elt F) Λ₀ (thr d i).2) α}
    {k : α → Prog (TpuEff nD τ sig (Elt F) Λ₀ (thr d i).2) β}
    (h : A ⊢ wp frame (wpE (defs₀ (F := F)) 𝒱₀ (thr d i) none) Set.univ P B) :
    A ⊢ (iprop((∀ a, B a -∗ wp frame (wpE (defs₀ (F := F)) 𝒱₀ (thr d i) none) Set.univ (k a) Q)
      -∗ wp frame (wpE (defs₀ (F := F)) 𝒱₀ (thr d i) none) Set.univ (P >>= k) Q) : sProp 𝕄) := by
  iintro HA Hk
  rw [wp_bind]
  iapply (wp_wand_r frame _ _)
  isplitl [HA]
  · iapply h $$ HA
  · iexact Hk

/-- The result's finished rows and, if there are any, the two rows just awaited. -/
theorem doneJoin (b : Prop) [Decidable b] (g : Buf (Elt F) (oLoc d)) {lo mid mid' r₀ : ℕ} (hb : b → mid = r₀ ∧ mid' = r₀ + 2) (hnb : ¬ b → mid = mid') (hlo : lo ≤ mid) :
    iprop((oLoc d ↦[rows lo mid]{fullShare} g) ∗ DoneIf d b g r₀) ⊢ (oLoc d ↦[rows lo mid']{fullShare} g : sProp 𝕄) := by
  unfold DoneIf
  by_cases h : b
  · obtain ⟨rfl, rfl⟩ := hb h
    rw [if_pos h]
    exact (o_split (F := F) d hlo (Nat.le_add_right mid 2) fullShare g).2
  · rw [if_neg h, hnb h]
    iintro ⟨Hd, -⟩
    iexact Hd

/-- One output buffer's turn: its last copy awaited if there was one, two rows gathered into it, and their copy started. -/
theorem wp_emit {α : Type} {Q : α → sProp 𝕄} (src : Memref sig .scVector .vmem S4x8192 .f32) (dst : Memref sig .scVector .vmem S2x8192 .f32)
    (hu : dst.view.set = Finset.univ) (sm : DmaSem sig) {c : Prop} [Decidable c] (b : Prop) [Decidable b] (hcb : c ↔ b)
    {xf : Buf (Elt F) (xLoc d)} {f₀ : Buf (Elt F) (oLoc d)}
    {ix : Buf (Elt F) (bI.view.loc (thr d i))} {hix : ∀ j : S8192.Idx, (ix j : BitVec 32).toNat < 8192} {fs : Buf (Elt F) (src.view.loc (thr d i))}
    {r₁ : ℕ} (hfs : IsBlock xf r₁ (src.view.read (Elt F) fs)) (a₁ a₂ : Fin 4) (ha : a₂.val = a₁.val + 1)
    {lo mid mid' r₀ r hi : ℕ} (hr : r = r₁ + a₁.val) (hb : b → mid = r₀ ∧ mid' = r₀ + 2) (hnb : ¬ b → mid = mid') (hlo : lo ≤ mid) (hhi : r + 2 ≤ hi)
    {O : CellTallies nD τ sig (HIx 1)} {W : Waits sig (HIx 1)} {off : c → Fin 2 → ℕ} {inb : ∀ hc : c, ∀ a, off hc a + S2x8192.size a ≤ S4096x8192.size a}
    {off' : Fin 2 → ℕ} {inb' : ∀ a, off' a + S2x8192.size a ≤ S4096x8192.size a} (hoff : off' = ![r, 0])
    {hsrc : c → dst.view.WordExact} {hdst : ∀ hc, (oS (off hc) (inb hc)).view.WordExact}
    {hsrc' : dst.view.WordExact} {hdst' : (oS off' inb').view.WordExact} {hsem' : DmaTarget.Typed (nD := nD) (p := (thr d i).2) .vmem (.dma sm) (.here (oS off' inb'))}
    {P : Prog (TpuEff nD τ sig (Elt F) Λ₀ (thr d i).2) Unit}
    (hP : iprop((bI.view.loc (thr d i) ↦{fullShare} ix) ∗ (src.view.loc (thr d i) ↦{fullShare} fs) ∗ ∃ g, dst.view.loc (thr d i) ↦{fullShare} g)
      ⊢ (wp frame (wpE (defs₀ (F := F)) 𝒱₀ (thr d i) none) Set.univ P
          fun _ => iprop((bI.view.loc (thr d i) ↦{fullShare} ix) ∗ (src.view.loc (thr d i) ↦{fullShare} fs)
            ∗ ∃ g, ⌜dst.view.read (Elt F) g = pairOf (src.view.read (Elt F) fs) ix hix a₁ a₂⌝ ∗ dst.view.loc (thr d i) ↦{fullShare} g) : sProp 𝕄))
    {k : PUnit → Prog (TpuEff nD τ sig (Elt F) Λ₀ (thr d i).2) α} :
    iprop((bI.view.loc (thr d i) ↦{fullShare} ix) ∗ (src.view.loc (thr d i) ↦{fullShare} fs) ∗ OutChan d i b dst sm (gathered xf ix hix) r₀
        ∗ (oLoc d ↦[rows r hi]{fullShare} f₀) ∗ (oLoc d ↦[rows lo mid]{fullShare} gathered xf ix hix)
        ∗ Owes (thr d i) O W ∗ Transfers.MayWaits (thr d i) none O)
      ⊢ (iprop((iprop((bI.view.loc (thr d i) ↦{fullShare} ix) ∗ (src.view.loc (thr d i) ↦{fullShare} fs) ∗ OutFlight d i dst sm (gathered xf ix hix) r
              ∗ (oLoc d ↦[rows (r + 2) hi]{fullShare} f₀) ∗ (oLoc d ↦[rows lo mid']{fullShare} gathered xf ix hix) ∗ Owes (thr d i) O W)
            -∗ wp frame (wpE (defs₀ (F := F)) 𝒱₀ (thr d i) none) Set.univ (k ⟨⟩) Q)
          -∗ wp frame (wpE (defs₀ (F := F)) 𝒱₀ (thr d i) none) Set.univ
              (if hc : c then .op (.waitDma2 sm dst (oS (off hc) (inb hc)) (hsrc hc) (hdst hc)) fun _ =>
                (P >>= fun _ => .op (.enqueueDmaAs dst (.here (oS off' inb')) .same (.dma sm) hsrc' hdst' hsem') k)
              else (P >>= fun _ => .op (.enqueueDmaAs dst (.here (oS off' inb')) .same (.dma sm) hsrc' hdst' hsem') k)) Q) : sProp 𝕄) := by
  iintro ⟨Hi, Hs, Hc, Ht, Hd, Ho, Hmw⟩ Hk
  iapply (wp_waitOutIf d i dst sm b hcb (gathered xf ix hix) r₀) $$ [Hc Ho Hmw]
  · isplitl [Hc]; · iexact Hc
    isplitl [Ho]; · iexact Ho
    iexact Hmw
  iintro ⟨Hn, Hg, Hv, Ho⟩
  iapply (wp_seq d i hP) $$ [Hi Hs Hg]
  · isplitl [Hi]; · iexact Hi
    isplitl [Hs]; · iexact Hs
    iexact Hg
  iintro %_ ⟨Hi, Hs, ⟨%g, %hg, Hg⟩⟩
  ihave Ht := (o_split (F := F) d (Nat.le_add_right r 2) hhi fullShare f₀).1 $$ Ht
  icases Ht with ⟨Ht, Hr⟩
  iapply (wp_startOut d i dst hu sm hoff (gathered xf ix hix) f₀ (f := g) (by rw [hg]; exact pairOf_isPair hfs a₁ a₂ hr ha)) $$ [Hg Ht Hv]
  · isplitl [Hg]; · iexact Hg
    isplitl [Ht]; · iexact Ht
    iexact Hv
  iintro Hfl
  iapply Hk
  isplitl [Hi]; · iexact Hi
  isplitl [Hs]; · iexact Hs
  isplitl [Hfl]; · iexact Hfl
  isplitl [Hr]; · iexact Hr
  isplitl [Hn Hd]
  · iapply (doneJoin d b (gathered xf ix hix) hb hnb hlo) $$ [Hn Hd]
    isplitl [Hd]; · iexact Hd
    iexact Hn
  · iexact Ho

/-- What holds between the main loop's trips, after `n` of them. -/
def TripInv (xf : Buf (Elt F) (xLoc d)) (f₀ : Buf (Elt F) (oLoc d)) (ix : Buf (Elt F) (bI.view.loc (thr d i)))
    (hix : ∀ j : S8192.Idx, (ix j : BitVec 32).toNat < 8192) (O : CellTallies nD τ sig (HIx 1)) (W : Waits sig (HIx 1)) (n : ℕ) : sProp 𝕄 :=
  iprop((bI.view.loc (thr d i) ↦{fullShare} ix)
    ∗ (xLoc d ↦[rows (base i) (base i + 8 * n)]{fullShare} xf) ∗ (xLoc d ↦[rows (base i + 8 * n + 8) (base i + 128)]{fullShare} xf)
    ∗ InChan d i (n < 16) bA cc0_scratch5.sem xf (base i + 8 * n) ∗ InChan d i (n < 16) bB cc0_scratch6.sem xf (base i + 8 * n + 4)
    ∗ (oLoc d ↦[rows (base i + 8 * n) (base i + 128)]{fullShare} f₀)
    ∗ (oLoc d ↦[rows (base i) (base i + (8 * n - 4))]{fullShare} gathered xf ix hix)
    ∗ OutChan d i (0 < n) bU cc0_scratch7.sem (gathered xf ix hix) (base i + (8 * n - 4))
    ∗ OutChan d i (0 < n) bV cc0_scratch8.sem (gathered xf ix hix) (base i + (8 * n - 2))
    ∗ Owes (thr d i) O W ∗ Transfers.MayWaits (thr d i) none O)

/-- What holds midway through trip `n`. -/
def MidInv (xf : Buf (Elt F) (xLoc d)) (f₀ : Buf (Elt F) (oLoc d)) (ix : Buf (Elt F) (bI.view.loc (thr d i)))
    (hix : ∀ j : S8192.Idx, (ix j : BitVec 32).toNat < 8192) (O : CellTallies nD τ sig (HIx 1)) (W : Waits sig (HIx 1)) (n : ℕ) : sProp 𝕄 :=
  iprop((bI.view.loc (thr d i) ↦{fullShare} ix)
    ∗ (xLoc d ↦[rows (base i) (base i + 8 * n + 4)]{fullShare} xf) ∗ (xLoc d ↦[rows (base i + 8 * n + 8) (base i + 128)]{fullShare} xf)
    ∗ ((∃ f, bA.view.loc (thr d i) ↦{fullShare} f) ∗ semVal (thr d i, SemLoc.dma cc0_scratch5.sem) 0)
    ∗ InFlight d i bB cc0_scratch6.sem xf (base i + 8 * n + 4)
    ∗ (oLoc d ↦[rows (base i + 8 * n + 2 + 2) (base i + 128)]{fullShare} f₀)
    ∗ (oLoc d ↦[rows (base i) (base i + 8 * n)]{fullShare} gathered xf ix hix)
    ∗ OutFlight d i bU cc0_scratch7.sem (gathered xf ix hix) (base i + 8 * n)
    ∗ OutFlight d i bV cc0_scratch8.sem (gathered xf ix hix) (base i + 8 * n + 2)
    ∗ Owes (thr d i) O W ∗ Transfers.MayWaits (thr d i) none O)

/-- What holds in trip `n` after its gathers, before the last copy in is started. -/
def EndInv (xf : Buf (Elt F) (xLoc d)) (f₀ : Buf (Elt F) (oLoc d)) (ix : Buf (Elt F) (bI.view.loc (thr d i)))
    (hix : ∀ j : S8192.Idx, (ix j : BitVec 32).toNat < 8192) (O : CellTallies nD τ sig (HIx 1)) (W : Waits sig (HIx 1)) (n : ℕ) : sProp 𝕄 :=
  iprop((bI.view.loc (thr d i) ↦{fullShare} ix)
    ∗ (xLoc d ↦[rows (base i) (base i + 8 * n + 8)]{fullShare} xf) ∗ (xLoc d ↦[rows (base i + 8 * n + 12) (base i + 128)]{fullShare} xf)
    ∗ InChan d i (n + 1 < 16) bA cc0_scratch5.sem xf (base i + 8 * n + 8)
    ∗ ((∃ f, bB.view.loc (thr d i) ↦{fullShare} f) ∗ semVal (thr d i, SemLoc.dma cc0_scratch6.sem) 0)
    ∗ (oLoc d ↦[rows (base i + 8 * n + 8) (base i + 128)]{fullShare} f₀)
    ∗ (oLoc d ↦[rows (base i) (base i + 8 * n + 4)]{fullShare} gathered xf ix hix)
    ∗ OutFlight d i bU cc0_scratch7.sem (gathered xf ix hix) (base i + 8 * n + 4)
    ∗ OutFlight d i bV cc0_scratch8.sem (gathered xf ix hix) (base i + 8 * n + 6)
    ∗ Owes (thr d i) O W ∗ Transfers.MayWaits (thr d i) none O)

/-- The first output buffer's view is all of it. -/
theorem bU_set : bU.view.set = Finset.univ := View.set_whole _
/-- The second output buffer's view is all of it. -/
theorem bV_set : bV.view.set = Finset.univ := View.set_whole _

/-- The main loop runs sixteen times. -/
theorem trips_eq : k0_t1_loop.trips = 16 := by decide

/-- The first guard holds from the second trip on. -/
theorem cond1_iff : ∀ p : Fin k0_t1_loop.trips, k0_cond1 p = 1#1 ↔ 0 < p.val := by decide
/-- The second guard holds from the second trip on. -/
theorem cond2_iff : ∀ p : Fin k0_t1_loop.trips, k0_cond2 p = 1#1 ↔ 0 < p.val := by decide
/-- The third guard holds on every trip but the last. -/
theorem cond3_iff : ∀ p : Fin k0_t1_loop.trips, k0_cond3 p = 1#1 ↔ p.val + 1 < 16 := by decide
/-- The fourth guard always holds. -/
theorem cond4_iff : ∀ p : Fin k0_t1_loop.trips, k0_cond4 p = 1#1 ↔ True := by decide
/-- The fifth guard always holds. -/
theorem cond5_iff : ∀ p : Fin k0_t1_loop.trips, k0_cond5 p = 1#1 ↔ True := by decide
/-- The sixth guard holds on every trip but the last. -/
theorem cond6_iff : ∀ p : Fin k0_t1_loop.trips, k0_cond6 p = 1#1 ↔ p.val + 1 < 16 := by decide

variable (xf : Buf (Elt F) (xLoc d)) (f₀ : Buf (Elt F) (oLoc d)) (ix : Buf (Elt F) (bI.view.loc (thr d i)))
    (hix : ∀ j : S8192.Idx, (ix j : BitVec 32).toNat < 8192) (O : CellTallies nD τ sig (HIx 1)) (W : Waits sig (HIx 1))

/-- The first half of a trip: the first block gathered. -/
theorem wp_part1 (v2 c0 c1 : BitVec 32) (p : Fin k0_t1_loop.trips) :
    TripInv d i xf f₀ ix hix O W p.val ⊢ (wp frame (wpE (defs₀ (F := F)) 𝒱₀ (thr d i) none) Set.univ
      (k0_part1_skel (F := F) i xW (Memref.isWhole_whole _) iW (Memref.isWhole_whole _) oW (Memref.isWhole_whole _) bI (Memref.isWhole_whole _)
            bA (Memref.isWhole_whole _) bB (Memref.isWhole_whole _) bU (Memref.isWhole_whole _) bV (Memref.isWhole_whole _)
            cc0_scratch5 cc0_scratch6 cc0_scratch7 cc0_scratch8 cc0_scoped0 v2 c0 c1 p)
      fun _ => MidInv d i xf f₀ ix hix O W p.val : sProp 𝕄) := by
  have hp : p.val < 16 := trips_eq ▸ p.isLt
  unfold TripInv MidInv k0_part1_skel
  simp only [Prog.lift, Prog.bind_op, Prog.bind_ret, Prog.pure_eq_ret]
  rw [InChan, if_pos hp, InChan, if_pos hp]
  iintro ⟨Hi, Hx, Hxr, HA, HB, Ht, Hd, HU, HV, Ho, #Hmw⟩
  iapply (wp_waitIn d i bA cc0_scratch5.sem xf (base i + 8 * p.val)) $$ [HA Ho]
  · isplitl [HA]; · iexact HA
    isplitl [Ho]; · iexact Ho
    iexact Hmw
  iintro ⟨⟨%fa, %hfa, HA⟩, Hxa, HsA, Ho⟩
  iapply (wp_emit d i bA bU bU_set cc0_scratch7.sem (0 < p.val) (cond1_iff p) (ix := ix) (hix := hix) hfa 0 1 rfl
      (lo := base i) (mid := base i + (8 * p.val - 4)) (mid' := base i + (8 * p.val - 2)) (r₀ := base i + (8 * p.val - 4)) (r := base i + 8 * p.val) (hi := base i + 128)
      rfl (fun h => ⟨rfl, by omega⟩) (fun h => by omega) (by omega) (by omega) (k0_off7_eq i p 0 0)
      (wp_t2 d i v2 c0 c1 p ix hix fa)) $$ [Hi HA HU Ht Hd Ho]
  · isplitl [Hi]; · iexact Hi
    isplitl [HA]; · iexact HA
    isplitl [HU]; · iexact HU
    isplitl [Ht]; · iexact Ht
    isplitl [Hd]; · iexact Hd
    isplitl [Ho]; · iexact Ho
    iexact Hmw
  iintro ⟨Hi, HA, HU, Ht, Hd, Ho⟩
  iapply (wp_emit d i bA bV bV_set cc0_scratch8.sem (0 < p.val) (cond2_iff p) (ix := ix) (hix := hix) hfa 2 3 rfl
      (lo := base i) (mid := base i + (8 * p.val - 2)) (mid' := base i + 8 * p.val) (r₀ := base i + (8 * p.val - 2)) (r := base i + 8 * p.val + 2) (hi := base i + 128)
      rfl (fun h => ⟨rfl, by omega⟩) (fun h => by omega) (by omega) (by omega) (k0_off7_eq i p 0 1)
      (wp_t3 d i v2 c0 c1 p ix hix fa)) $$ [Hi HA HV Ht Hd Ho]
  · isplitl [Hi]; · iexact Hi
    isplitl [HA]; · iexact HA
    isplitl [HV]; · iexact HV
    isplitl [Ht]; · iexact Ht
    isplitl [Hd]; · iexact Hd
    isplitl [Ho]; · iexact Ho
    iexact Hmw
  iintro ⟨Hi, HA, HV, Ht, Hd, Ho⟩
  rw [wp_ret]
  imodintro
  isplitl [Hi]; · iexact Hi
  isplitl [Hx Hxa]
  · iapply (x_split (F := F) d (lo := base i) (mid := base i + 8 * p.val) (hi := base i + 8 * p.val + 4) (by omega) (by omega) fullShare xf).2
    isplitl [Hx]; · iexact Hx
    iexact Hxa
  isplitl [Hxr]; · iexact Hxr
  isplitl [HA HsA]
  · isplitl [HA]
    · iexists fa; iexact HA
    · iexact HsA
  isplitl [HB]; · iexact HB
  isplitl [Ht]; · iexact Ht
  isplitl [Hd]; · iexact Hd
  isplitl [HU]; · iexact HU
  isplitl [HV]; · iexact HV
  isplitl [Ho]; · iexact Ho
  iexact Hmw

/-- The second half of a trip: the next first block's copy started, the second block gathered. -/
theorem wp_part2 (v2 : BitVec 32) (p : Fin k0_t1_loop.trips) (v18 v19 v42 c32 : BitVec 32) :
    MidInv d i xf f₀ ix hix O W p.val ⊢ (wp frame (wpE (defs₀ (F := F)) 𝒱₀ (thr d i) none) Set.univ
      (k0_part2_skel (F := F) i xW (Memref.isWhole_whole _) iW (Memref.isWhole_whole _) oW (Memref.isWhole_whole _) bI (Memref.isWhole_whole _)
            bA (Memref.isWhole_whole _) bB (Memref.isWhole_whole _) bU (Memref.isWhole_whole _) bV (Memref.isWhole_whole _)
            cc0_scratch5 cc0_scratch6 cc0_scratch7 cc0_scratch8 cc0_scoped0 v2 p v18 v19 v42 c32)
      fun _ => EndInv d i xf f₀ ix hix O W p.val : sProp 𝕄) := by
  have hp : p.val < 16 := trips_eq ▸ p.isLt
  unfold MidInv EndInv k0_part2_skel
  simp only [Prog.lift, Prog.bind_op, Prog.bind_ret, Prog.pure_eq_ret]
  iintro ⟨Hi, Hx, Hxr, ⟨HA, HsA⟩, HB, Ht, Hd, HU, HV, Ho, #Hmw⟩
  iapply (wp_startInIf d i bA cc0_scratch5.sem (p.val + 1 < 16) (cond3_iff p) (r := base i + 8 * p.val + 8) (hi := base i + 128)
      (k0_off12_eq i p) (fun h => by omega) (fun h => by omega) xf) $$ [Hxr HA HsA]
  · isplitl [Hxr]; · iexact Hxr
    isplitl [HA]; · iexact HA
    iexact HsA
  iintro ⟨HA, Hxr⟩
  iapply (wp_waitIn d i bB cc0_scratch6.sem xf (base i + 8 * p.val + 4)) $$ [HB Ho]
  · isplitl [HB]; · iexact HB
    isplitl [Ho]; · iexact Ho
    iexact Hmw
  iintro ⟨⟨%fb, %hfb, HB⟩, Hxb, HsB, Ho⟩
  iapply (wp_emit d i bB bU bU_set cc0_scratch7.sem True (cond4_iff p) (ix := ix) (hix := hix) hfb 0 1 rfl
      (lo := base i) (mid := base i + 8 * p.val) (mid' := base i + 8 * p.val + 2) (r₀ := base i + 8 * p.val) (r := base i + 8 * p.val + 4) (hi := base i + 128)
      rfl (fun _ => ⟨rfl, rfl⟩) (fun h => absurd trivial h) (by omega) (by omega) (k0_off7_eq i p 1 0)
      (wp_t4 d i v2 p v18 v19 v42 c32 ix hix fb)) $$ [Hi HB HU Ht Hd Ho]
  · isplitl [Hi]; · iexact Hi
    isplitl [HB]; · iexact HB
    isplitl [HU]
    · rw [OutChan, if_pos trivial]; iexact HU
    isplitl [Ht]; · iexact Ht
    isplitl [Hd]; · iexact Hd
    isplitl [Ho]; · iexact Ho
    iexact Hmw
  iintro ⟨Hi, HB, HU, Ht, Hd, Ho⟩
  iapply (wp_emit d i bB bV bV_set cc0_scratch8.sem True (cond5_iff p) (ix := ix) (hix := hix) hfb 2 3 rfl
      (lo := base i) (mid := base i + 8 * p.val + 2) (mid' := base i + 8 * p.val + 4) (r₀ := base i + 8 * p.val + 2) (r := base i + 8 * p.val + 6) (hi := base i + 128)
      rfl (fun _ => ⟨rfl, rfl⟩) (fun h => absurd trivial h) (by omega) (by omega) (k0_off7_eq i p 1 1)
      (wp_t5 d i v2 p v18 v19 v42 c32 ix hix fb)) $$ [Hi HB HV Ht Hd Ho]
  · isplitl [Hi]; · iexact Hi
    isplitl [HB]; · iexact HB
    isplitl [HV]
    · rw [OutChan, if_pos trivial]; iexact HV
    isplitl [Ht]; · iexact Ht
    isplitl [Hd]; · iexact Hd
    isplitl [Ho]; · iexact Ho
    iexact Hmw
  iintro ⟨Hi, HB, HV, Ht, Hd, Ho⟩
  rw [wp_ret]
  imodintro
  isplitl [Hi]; · iexact Hi
  isplitl [Hx Hxb]
  · iapply (x_split (F := F) d (lo := base i) (mid := base i + 8 * p.val + 4) (hi := base i + 8 * p.val + 8) (by omega) (by omega) fullShare xf).2
    isplitl [Hx]; · iexact Hx
    iexact Hxb
  isplitl [Hxr]; · iexact Hxr
  isplitl [HA]; · iexact HA
  isplitl [HB HsB]
  · isplitl [HB]
    · iexists fb; iexact HB
    · iexact HsB
  isplitl [Ht]; · iexact Ht
  isplitl [Hd]; · iexact Hd
  isplitl [HU]; · iexact HU
  isplitl [HV]; · iexact HV
  isplitl [Ho]; · iexact Ho
  iexact Hmw

/-- A whole trip carries the invariant on. -/
theorem wp_trip (v2 : BitVec 32) (p : Fin k0_t1_loop.trips) :
    TripInv d i xf f₀ ix hix O W p.val ⊢ (wp frame (wpE (defs₀ (F := F)) 𝒱₀ (thr d i) none) Set.univ
      (k0_t1_body (F := F) i xW (Memref.isWhole_whole _) iW (Memref.isWhole_whole _) oW (Memref.isWhole_whole _) bI (Memref.isWhole_whole _)
            bA (Memref.isWhole_whole _) bB (Memref.isWhole_whole _) bU (Memref.isWhole_whole _) bV (Memref.isWhole_whole _)
            cc0_scratch5 cc0_scratch6 cc0_scratch7 cc0_scratch8 cc0_scoped0 v2 p ())
      fun _ => TripInv d i xf f₀ ix hix O W (p.val + 1) : sProp 𝕄) := by
  have hp : p.val < 16 := trips_eq ▸ p.isLt
  unfold k0_t1_body
  rw [k0_part1_eq_skeleton, k0_part2_eq_skeleton]
  simp only [Prog.lift, Prog.bind_op, Prog.bind_ret, Prog.pure_eq_ret]
  iintro H
  iapply (wp_seq d i (wp_part1 d i xf f₀ ix hix O W v2 0#32 1#32 p)) $$ H
  iintro %a H
  iapply (wp_seq d i (wp_part2 d i xf f₀ ix hix O W v2 p a.1 a.2.1 a.2.2.1 a.2.2.2)) $$ H
  iintro %a' H
  unfold EndInv TripInv
  icases H with ⟨Hi, Hx, Hxr, HA, ⟨HB, HsB⟩, Ht, Hd, HU, HV, Ho, Hmw⟩
  iapply (wp_startInIf d i bB cc0_scratch6.sem (p.val + 1 < 16) (cond6_iff p) (r := base i + 8 * p.val + 12) (hi := base i + 128)
      (k0_off21_eq i p) (fun h => by omega) (fun h => by omega) xf) $$ [Hxr HB HsB]
  · isplitl [Hxr]; · iexact Hxr
    isplitl [HB]; · iexact HB
    iexact HsB
  iintro ⟨HB, Hxr⟩
  rw [wp_ret]
  imodintro
  rw [OutChan, if_pos (Nat.succ_pos _), OutChan, if_pos (Nat.succ_pos _)]
  rw [show base i + 8 * (p.val + 1) = base i + 8 * p.val + 8 by omega, show base i + (8 * (p.val + 1) - 4) = base i + 8 * p.val + 4 by omega,
    show base i + (8 * (p.val + 1) - 2) = base i + 8 * p.val + 6 by omega]
  isplitl [Hi]; · iexact Hi
  isplitl [Hx]; · iexact Hx
  isplitl [Hxr]; · iexact Hxr
  isplitl [HA]; · iexact HA
  isplitl [HB]; · iexact HB
  isplitl [Ht]; · iexact Ht
  isplitl [Hd]; · iexact Hd
  isplitl [HU]; · iexact HU
  isplitl [HV]; · iexact HV
  isplitl [Ho]; · iexact Ho
  iexact Hmw

/-- The main loop. -/
theorem wp_trips (v2 : BitVec 32) :
    TripInv d i xf f₀ ix hix O W 0 ⊢ (wp frame (wpE (defs₀ (F := F)) 𝒱₀ (thr d i) none) Set.univ
      (Scf.Loop.for k0_t1_loop k0_t1_ok ⟨⟩ (k0_t1_body (F := F) i xW (Memref.isWhole_whole _) iW (Memref.isWhole_whole _) oW (Memref.isWhole_whole _) bI (Memref.isWhole_whole _)
            bA (Memref.isWhole_whole _) bB (Memref.isWhole_whole _) bU (Memref.isWhole_whole _) bV (Memref.isWhole_whole _)
            cc0_scratch5 cc0_scratch6 cc0_scratch7 cc0_scratch8 cc0_scoped0 v2))
      fun _ => TripInv d i xf f₀ ix hix O W 16 : sProp 𝕄) := by
  refine BIBase.Entails.trans ?_ (Scf.wp_for frame (wpE (defs₀ (F := F)) 𝒱₀ (thr d i) none) Set.univ k0_t1_loop.lb k0_t1_loop.ub k0_t1_loop.st k0_t1_ok ⟨⟩ _
    (fun n _ => TripInv d i xf f₀ ix hix O W n) (fun n _ => wp_trip d i xf f₀ ix hix O W v2 n))
  iintro H
  isplitl
  · iexact H
  · iintro %_ HI
    iapply (BIBase.Entails.of_eq (congrArg (TripInv d i xf f₀ ix hix O W) trips_eq)) $$ HI

end Trip

end Cert.Proof.Cols

end
-- ==== Proof.Tile.lean ====
/-
  The task of one vector subcore: from its 128 rows of `x`, a share of the indices and its 128 rows of the result, to the
  same with those rows of the result gathered.
-/
module

public import proofs.«01_k».proof.Proof.Trip

@[expose] public section

noncomputable section

namespace Cert.Proof.Cols

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Task

variable (d : Dev nD) (L : grid0.Coords)

/-- A semaphore of the subcore, as a cell. -/
abbrev cell (s : DmaSem sig) : GSem nD τ sig := (thr d L, SemLoc.dma s)

/-- A buffer of the subcore's own, at some contents. -/
abbrev someBuf (b : Ref sig .scVector) : sProp 𝕄 := iprop(∃ f, (thr d L).loc b ↦{fullShare} f)

/-- A scoped semaphore's cell is one of the subcore's own. -/
theorem cell_own (s : DmaSem sig) (h : (SemLoc.dma s : SemLoc sig).isScoped .scVector = true) : cell d L s ∈ ownCells (thr d L) :=
  mem_ownCells.mpr ⟨rfl, h⟩

/-- Different semaphores have different cells. -/
theorem cell_ne {s s' : DmaSem sig} (h : s ≠ s') : cell d L s ≠ cell d L s' := fun e => h (by
  have e' : (SemLoc.dma s : SemLoc sig) = SemLoc.dma s' := congrArg Prod.snd e
  exact SemLoc.dma.inj e')

/-- The subcore's semaphores at zero are the kernel's five and the others. -/
theorem sems_split :
    (ownSems0 (thr d L) : sProp 𝕄) = iprop(semVal (cell d L cc0_scratch5.sem) 0 ∗ semVal (cell d L cc0_scratch6.sem) 0
      ∗ semVal (cell d L cc0_scratch7.sem) 0 ∗ semVal (cell d L cc0_scratch8.sem) 0 ∗ semVal (cell d L cc0_scoped0.sem) 0
      ∗ bigSep ((((((ownCells (thr d L)).erase (cell d L cc0_scratch5.sem)).erase (cell d L cc0_scratch6.sem)).erase (cell d L cc0_scratch7.sem)).erase
          (cell d L cc0_scratch8.sem)).erase (cell d L cc0_scoped0.sem)) fun g => semVal g 0) := by
  unfold SparseCore.Cfg.ownSems0
  rw [SparseCore.bigSep_erase' (cell_own d L cc0_scratch5.sem (by decide)),
    SparseCore.bigSep_erase' (i := cell d L cc0_scratch6.sem) (by
      simp only [Finset.mem_erase]; exact ⟨cell_ne d L (by decide), cell_own d L _ (by decide)⟩),
    SparseCore.bigSep_erase' (i := cell d L cc0_scratch7.sem) (by
      simp only [Finset.mem_erase]; exact ⟨cell_ne d L (by decide), cell_ne d L (by decide), cell_own d L _ (by decide)⟩),
    SparseCore.bigSep_erase' (i := cell d L cc0_scratch8.sem) (by
      simp only [Finset.mem_erase]; exact ⟨cell_ne d L (by decide), cell_ne d L (by decide), cell_ne d L (by decide), cell_own d L _ (by decide)⟩),
    SparseCore.bigSep_erase' (i := cell d L cc0_scoped0.sem) (by
      simp only [Finset.mem_erase]
      exact ⟨cell_ne d L (by decide), cell_ne d L (by decide), cell_ne d L (by decide), cell_ne d L (by decide), cell_own d L _ (by decide)⟩)]

/-- A buffer reference of the subcore's processor, device-wide. -/
abbrev dref (b : Ref sig .scVector) := (Proc.scVector (τ := τ) (cV L) (jV L)).devRef b

/-- Different buffers are different references. -/
theorem dref_ne {b b' : Ref sig .scVector} (h : b ≠ b') : dref L b ≠ dref L b' := fun e => h (Proc.devRef_injective _ e)

/-- The subcore's buffers are the kernel's five and the others. -/
theorem bufs_split :
    (ownBufs (thr d L) : sProp 𝕄) = iprop(someBuf d L cc0_scratch0 ∗ someBuf d L cc0_scratch1 ∗ someBuf d L cc0_scratch2
      ∗ someBuf d L cc0_scratch3 ∗ someBuf d L cc0_scratch4
      ∗ bigSep ((((((ownRefs (τ := τ) (.scVector (cV L) (jV L))).erase (dref L cc0_scratch0)).erase (dref L cc0_scratch1)).erase (dref L cc0_scratch2)).erase
          (dref L cc0_scratch3)).erase (dref L cc0_scratch4)) fun b => iprop(∃ f, ((d, b) : Loc nD τ sig) ↦{fullShare} f)) := by
  have hm : ∀ b : Ref sig .scVector, ((Proc.scVector (τ := τ) (cV L) (jV L)).devRef b).owner = .proc (Proc.scVector (cV L) (jV L)) →
      dref L b ∈ ownRefs (τ := τ) (sig := sig) (.scVector (cV L) (jV L)) := fun b h => SparseCore.Cfg.mem_ownRefs_of_owner h
  unfold SparseCore.Cfg.ownBufs
  refine (SparseCore.bigSep_erase' (hm cc0_scratch0 rfl)).trans ?_
  rw [SparseCore.bigSep_erase' (i := dref L cc0_scratch1) (by
      simp only [Finset.mem_erase]; exact ⟨dref_ne L (by decide), hm _ rfl⟩),
    SparseCore.bigSep_erase' (i := dref L cc0_scratch2) (by
      simp only [Finset.mem_erase]; exact ⟨dref_ne L (by decide), dref_ne L (by decide), hm _ rfl⟩),
    SparseCore.bigSep_erase' (i := dref L cc0_scratch3) (by
      simp only [Finset.mem_erase]; exact ⟨dref_ne L (by decide), dref_ne L (by decide), dref_ne L (by decide), hm _ rfl⟩),
    SparseCore.bigSep_erase' (i := dref L cc0_scratch4) (by
      simp only [Finset.mem_erase]; exact ⟨dref_ne L (by decide), dref_ne L (by decide), dref_ne L (by decide), dref_ne L (by decide), hm _ rfl⟩)]

/-- The rows of the two arrays the subcore works on, before its task and after. -/
def tilePts (q : PosShare TreeShare) (xf : Buf (Elt F) (xLoc d)) (idx : Buf (Elt F) (iLoc d)) (f : Buf (Elt F) (oLoc d)) : sProp 𝕄 :=
  iprop((iLoc d ↦{q} idx) ∗ (xLoc d ↦[rows (base L) (base L + 128)]{fullShare} xf) ∗ oLoc d ↦[rows (base L) (base L + 128)]{fullShare} f)

/-- What the copy of the indices leaves in the subcore's buffer. -/
theorem fetched (idx : Buf (Elt F) (iLoc d)) (f : Buf (Elt F) (bI.view.loc (thr d L))) :
    bI.view.write (Elt F) f (iW.view.read (Elt F) idx) Finset.univ = idx := View.write_whole_univ _ _ _

/-- The task of the vector subcore at `L`: its rows of the result end up gathered. -/
theorem wp_task (hF : (K (F := F)).Facts) (q : PosShare TreeShare) (xf : Buf (Elt F) (xLoc d)) (idx : Buf (Elt F) (iLoc d)) (f₀ : Buf (Elt F) (oLoc d))
    (hix : ∀ j : S8192.Idx, (idx j : BitVec 32).toNat < 8192) (O : CellTallies nD τ sig (HIx 1)) (W : Waits sig (HIx 1)) (hO : ∀ g, O g none = 0) :
    iprop(levAts (K (F := F)).L (K (F := F)).lev ∗ tilePts d L q xf idx f₀
        ∗ scopedBufs (thr d L) ∗ scopedSems0 (thr d L) ∗ owes (thr d L) O W)
      ⊢ (wp frame (wpE (defs₀ (F := F)) 𝒱₀ (thr d L) none) Set.univ
          (cc0__body (F := F) L xW (Memref.isWhole_whole _) iW (Memref.isWhole_whole _) oW (Memref.isWhole_whole _) bI (Memref.isWhole_whole _)
            bA (Memref.isWhole_whole _) bB (Memref.isWhole_whole _) bU (Memref.isWhole_whole _) bV (Memref.isWhole_whole _)
            cc0_scratch5 cc0_scratch6 cc0_scratch7 cc0_scratch8 cc0_scoped0)
          fun _ => iprop(tilePts d L q xf idx (gathered xf idx hix) ∗ scopedBufs (thr d L) ∗ scopedSems0 (thr d L)
            ∗ ∃ W', ⌜∀ p ∈ W', p ∈ W ∨ p.2 = none⌝ ∗ owes (thr d L) O W') : sProp 𝕄) := by
  rw [cc0__body_eq_skeleton]; unfold cc0__body_skel
  simp only [Prog.lift, Prog.bind_op, Prog.bind_ret, Prog.pure_eq_ret]
  rw [(K (F := F)).scopedBufs_V hF d (cV L) (jV L), SparseCore.Cfg.scopedSems0_V (Val := Elt F) d (cV L) (jV L), sems_split, bufs_split]
  unfold tilePts
  iintro ⟨#Hlv, ⟨Hi, Hx, Ho⟩, ⟨⟨%f0, HbI⟩, HA, HB, HU, HV, Hbufs⟩, ⟨HsA, HsB, HsU, HsV, HsI, Hsems⟩, HO⟩
  ihave #Hmw := ((K (F := F)).mayWaits_none (thr := thr d L) hO) $$ Hlv
  -- the indices fetched whole
  iapply (Transfers.wp_dmaLocal (EC (F := F)) 𝒱₀ (thr d L) none (src := iW) (dst := bI) (fs := idx) (q := q) (Sd := Finset.univ) (fd := f0) none bI.view.dmaCredit rfl
    (View.dmaCredit_pos _ (by decide)) (Finset.subset_univ _)) $$ [Hi HbI HsI]
  · isplitl [Hi]
    · iapply (BIBase.Entails.of_eq (congrArg (fun I => (iLoc d ↦[I]{q} idx : sProp 𝕄)) (View.set_whole main_arg1_scv).symm)) $$ Hi
    isplitl [HbI]; · iexact HbI
    iexact HsI
  iintro Hfl
  iapply (Transfers.wp_waitLocalO (EC (F := F)) 𝒱₀ (thr d L) none (dstw := bI) (srcw := iW) none rfl) $$ [Hfl HO]
  · isplitl [Hfl]; · iexact Hfl
    isplitl [HO]; · iexact HO
    iapply (Transfers.MayWaits.elim (SemLoc.dma cc0_scoped0.sem)) $$ Hmw
  iintro ⟨⟨HbI, Hi⟩, HsI, HO⟩
  ihave HbI := (BIBase.Entails.of_eq (congrArg (fun g => (bI.view.loc (thr d L) ↦{fullShare} g : sProp 𝕄)) (fetched d L idx f0))) $$ HbI
  ihave Hi := (BIBase.Entails.of_eq (congrArg (fun I => (iLoc d ↦[I]{q} idx : sProp 𝕄)) (View.set_whole main_arg1_scv))) $$ Hi
  -- the first two blocks of rows on their way
  ihave Hx := (x_split (F := F) d (lo := base L) (mid := base L + 4) (hi := base L + 128) (by omega) (by omega) fullShare xf).1 $$ Hx
  icases Hx with ⟨Hxa, Hx⟩
  iapply (wp_startIn d L bA cc0_scratch5.sem (r := base L) (k0_off1_eq L 0) xf) $$ [Hxa HA HsA]
  · isplitl [Hxa]; · iexact Hxa
    isplitl [HA]; · iexact HA
    iexact HsA
  iintro HA
  ihave Hx := (x_split (F := F) d (lo := base L + 4) (mid := base L + 4 + 4) (hi := base L + 128) (by omega) (by omega) fullShare xf).1 $$ Hx
  icases Hx with ⟨Hxb, Hx⟩
  iapply (wp_startIn d L bB cc0_scratch6.sem (r := base L + 4) (k0_off1_eq L 1) xf) $$ [Hxb HB HsB]
  · isplitl [Hxb]; · iexact Hxb
    isplitl [HB]; · iexact HB
    iexact HsB
  iintro HB
  -- the main loop
  iapply (wp_seq d L (wp_trips d L xf f₀ idx hix O W _)) $$ [HbI Hx HA HB Ho HU HV HsU HsV HO]
  · unfold TripInv
    rw [InChan, if_pos (by decide), InChan, if_pos (by decide), OutChan, if_neg (by decide), OutChan, if_neg (by decide)]
    isplitl [HbI]; · iexact HbI
    isplitr
    · iapply (BIBase.Entails.of_eq (congrArg (fun I => (xLoc d ↦[I]{fullShare} xf : sProp 𝕄)) (rows_self (base L)).symm))
      rw [pointsTo_empty]; iempintro
    isplitl [Hx]; · iexact Hx
    isplitl [HA]; · iexact HA
    isplitl [HB]; · iexact HB
    isplitl [Ho]; · iexact Ho
    isplitr
    · iapply (BIBase.Entails.of_eq (congrArg (fun I => (oLoc d ↦[I]{fullShare} gathered xf idx hix : sProp 𝕄)) (rows_self (base L)).symm))
      rw [pointsTo_empty]; iempintro
    isplitl [HU HsU]
    · isplitl [HU]; · iexact HU
      iexact HsU
    isplitl [HV HsV]
    · isplitl [HV]; · iexact HV
      iexact HsV
    isplitl [HO]
    · unfold Owes
      iexists (insert (SemLoc.dma cc0_scoped0.sem, none) W)
      isplitr
      · ipureintro
        intro p hp
        rcases Finset.mem_insert.mp hp with rfl | hp
        · exact .inr rfl
        · exact .inl hp
      · iexact HO
    · iexact Hmw
  iintro %_ H
  unfold TripInv
  rw [InChan, if_neg (by decide), InChan, if_neg (by decide), OutChan, if_pos (by decide), OutChan, if_pos (by decide)]
  icases H with ⟨HbI, Hx, -, ⟨HA, HsA⟩, ⟨HB, HsB⟩, -, Hd, HU, HV, HO, -⟩
  -- the last two copies out
  iapply (wp_waitOut d L bU cc0_scratch7.sem (gathered xf idx hix) (base L + 124)) $$ [HU HO]
  · isplitl [HU]; · iexact HU
    isplitl [HO]; · iexact HO
    iexact Hmw
  iintro ⟨Hu, HU, HsU, HO⟩
  iapply (wp_waitOut d L bV cc0_scratch8.sem (gathered xf idx hix) (base L + 126)) $$ [HV HO]
  · isplitl [HV]; · iexact HV
    isplitl [HO]; · iexact HO
    iexact Hmw
  iintro ⟨Hv, HV, HsV, HO⟩
  rw [wp_ret]
  imodintro
  isplitl [Hi Hx Hd Hu Hv]
  · isplitl [Hi]; · iexact Hi
    isplitl [Hx]; · iexact Hx
    iapply (o_split (F := F) d (lo := base L) (mid := base L + 126) (hi := base L + 128) (by omega) (by omega) fullShare (gathered xf idx hix)).2
    isplitl [Hd Hu]
    · iapply (o_split (F := F) d (lo := base L) (mid := base L + 124) (hi := base L + 126) (by omega) (by omega) fullShare (gathered xf idx hix)).2
      isplitl [Hd]; · iexact Hd
      iexact Hu
    · iexact Hv
  isplitl [HbI HA HB HU HV Hbufs]
  · isplitl [HbI]
    · iexists idx; iexact HbI
    isplitl [HA]; · iexact HA
    isplitl [HB]; · iexact HB
    isplitl [HU]; · iexact HU
    isplitl [HV]; · iexact HV
    iexact Hbufs
  isplitl [HsA HsB HsU HsV HsI Hsems]
  · isplitl [HsA]; · iexact HsA
    isplitl [HsB]; · iexact HsB
    isplitl [HsU]; · iexact HsU
    isplitl [HsV]; · iexact HsV
    isplitl [HsI]; · iexact HsI
    iexact Hsems
  unfold Owes
  iexact HO

end Task

end Cert.Proof.Cols

end
-- ==== Proof.Launch.lean ====
/-
  The launch: the arrays dealt to the thirty-two vector subcores and taken back, and the program's run, which leaves the
  gathered array as the result.
-/
module

public import proofs.«01_k».proof.Proof.Tile

@[expose] public section

noncomputable section

namespace Cert.Proof.Cols

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The facts the launch asks of the program's handshake semaphores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Dealing the arrays -/

/-- The grid coordinates of SparseCore `c`'s subcore `s`. -/
def coords (c : Fin (grid0.bound 0)) (s : Fin (grid0.bound 1)) : grid0.Coords :=
  fun | 0 => c | 1 => s | ⟨_ + 2, h⟩ => absurd h (Nat.not_lt.2 (Nat.le_add_left _ _))

/-- The same, of the two numbers. -/
def co (c s : ℕ) : grid0.Coords := coords ⟨c % 2, Nat.mod_lt _ (by decide)⟩ ⟨s % 16, Nat.mod_lt _ (by decide)⟩

/-- The first row of a subcore, of the two numbers. -/
theorem base_co (c s : ℕ) : base (co c s) = 256 * (s % 16) + 128 * (c % 2) := rfl

/-- The share of the indices that SparseCore `c`'s subcore `s` reads by. -/
def share (c s : ℕ) : PosShare TreeShare :=
  Transfers.dealOf (Transfers.dealOf fullShare (Finset.univ : Finset (Fin 2)) ⟨c % 2, Nat.mod_lt _ (by decide)⟩) (Finset.univ : Finset (Fin 16)) ⟨s % 16, Nat.mod_lt _ (by decide)⟩

/-- The rows of the subcore numbered `t`. -/
def part (t : Fin 2 × Fin 16) : Finset S4096x8192.Idx := rows (base (co t.1.val t.2.val)) (base (co t.1.val t.2.val) + 128)

/-- A row belongs to the subcore named by its block of 256 and the half of it. -/
theorem mem_part {t : Fin 2 × Fin 16} {y : S4096x8192.Idx} :
    y ∈ part t ↔ (y 0).val / 256 = t.2.val ∧ (y 0).val / 128 % 2 = t.1.val := by
  have h1 := t.1.isLt
  have h2 := t.2.isLt
  unfold part
  rw [mem_rows, base_co, Nat.mod_eq_of_lt h1, Nat.mod_eq_of_lt h2]
  omega

/-- Different subcores have no row in common. -/
theorem part_disjoint : ∀ t ∈ (Finset.univ : Finset (Fin 2 × Fin 16)), ∀ t' ∈ (Finset.univ : Finset (Fin 2 × Fin 16)), t ≠ t' → Disjoint (part t) (part t') := by
  intro t _ t' _ hne
  rw [Finset.disjoint_left]
  intro y h h'
  rw [mem_part] at h h'
  exact hne (Prod.ext (Fin.ext (h.2.symm.trans h'.2)) (Fin.ext (h.1.symm.trans h'.1)))

/-- Every row belongs to a subcore. -/
theorem part_cover : (Finset.univ : Finset (Fin 2 × Fin 16)).biUnion part = Finset.univ := by
  ext y
  have hy : (y 0).val < 4096 := (y 0).isLt
  simp only [Finset.mem_biUnion, Finset.mem_univ, true_and, iff_true]
  exact ⟨(⟨(y 0).val / 128 % 2, Nat.mod_lt _ (by decide)⟩, ⟨(y 0).val / 256, by omega⟩), mem_part.mpr ⟨rfl, rfl⟩⟩

/-- The operand whole is the subcores' rows of it. -/
theorem x_deal (d : Dev nD) (f : Buf (Elt F) (xLoc d)) :
    (xLoc d ↦{fullShare} f : sProp 𝕄) = bigSep Finset.univ fun c : Fin 2 => bigSep Finset.univ fun s : Fin 16 =>
      xLoc d ↦[rows (base (co c.val s.val)) (base (co c.val s.val) + 128)]{fullShare} f := by
  refine Eq.trans ?_ (SparseCore.bigSep_product (Finset.univ : Finset (Fin 2)) (Finset.univ : Finset (Fin 16)) fun t => (xLoc d ↦[part t]{fullShare} f : sProp 𝕄))
  rw [Finset.univ_product_univ, ← pointsTo_biUnion Finset.univ (ℓ := xLoc d) part part_disjoint, part_cover]

/-- The result whole is the subcores' rows of it. -/
theorem o_deal (d : Dev nD) (f : Buf (Elt F) (oLoc d)) :
    (oLoc d ↦{fullShare} f : sProp 𝕄) = bigSep Finset.univ fun c : Fin 2 => bigSep Finset.univ fun s : Fin 16 =>
      oLoc d ↦[rows (base (co c.val s.val)) (base (co c.val s.val) + 128)]{fullShare} f := by
  refine Eq.trans ?_ (SparseCore.bigSep_product (Finset.univ : Finset (Fin 2)) (Finset.univ : Finset (Fin 16)) fun t => (oLoc d ↦[part t]{fullShare} f : sProp 𝕄))
  rw [Finset.univ_product_univ, ← pointsTo_biUnion Finset.univ (ℓ := oLoc d) part part_disjoint, part_cover]

/-- The indices whole are the subcores' read shares of them. -/
theorem i_deal (d : Dev nD) (f : Buf (Elt F) (iLoc d)) :
    (iLoc d ↦{fullShare} f : sProp 𝕄) = bigSep Finset.univ fun c : Fin 2 => bigSep Finset.univ fun s : Fin 16 => iLoc d ↦{share c.val s.val} f := by
  rw [Transfers.pointsTo_deal (Finset.univ : Finset (Fin 2)) Finset.univ_nonempty fullShare]
  refine bigSep_congr fun c _ => ?_
  rw [Transfers.pointsTo_deal (Finset.univ : Finset (Fin 16)) Finset.univ_nonempty]
  refine bigSep_congr fun s _ => ?_
  have hc : (⟨c.val % 2, Nat.mod_lt _ (by decide)⟩ : Fin 2) = c := Fin.ext (Nat.mod_eq_of_lt c.isLt)
  have hs : (⟨s.val % 16, Nat.mod_lt _ (by decide)⟩ : Fin 16) = s := Fin.ext (Nat.mod_eq_of_lt s.isLt)
  unfold share
  rw [hc, hs]

/-- What SparseCore `c`'s subcore `s` is handed, with the result at `f`. -/
abbrev tileAt (d : Dev nD) (xf : Buf (Elt F) (xLoc d)) (idx : Buf (Elt F) (iLoc d)) (f : Buf (Elt F) (oLoc d)) (c s : ℕ) : sProp 𝕄 :=
  tilePts d (co c s) (share c s) xf idx f

/-- The three arrays whole are the subcores' parts of them. -/
theorem deal (d : Dev nD) (xf : Buf (Elt F) (xLoc d)) (idx : Buf (Elt F) (iLoc d)) (f : Buf (Elt F) (oLoc d)) :
    (bigSep Finset.univ fun c : Fin 2 => bigSep Finset.univ fun s : Fin 16 => tileAt d xf idx f c.val s.val : sProp 𝕄)
      = iprop((iLoc d ↦{fullShare} idx) ∗ (xLoc d ↦{fullShare} xf) ∗ oLoc d ↦{fullShare} f) := by
  rw [i_deal, x_deal, o_deal]
  unfold tileAt tilePts
  simp only [bigSep_sep']

/-! ## What the call hands out and takes back -/

variable (m : (ℓ : Loc nD τ sig) → Buf (Elt F) ℓ) (ρ : Dev nD → PrngReg)

/-- Every index the launch memory holds names a column. -/
def PreOK : Prop := ∀ (d : Dev nD) (j : S8192.Idx), (m (iLoc d) j : BitVec 32).toNat < 8192

/-- The array the program leaves. -/
def result (hpre : PreOK m) (d : Dev nD) : Buf (Elt F) (oLoc d) := gathered (m (xLoc d)) (m (iLoc d)) (hpre d)

variable (hpre : PreOK m)

/-- The call's payloads: each subcore its part, the result before and after. -/
def P : (K (F := F)).Pay (nD := nD) (Val := Elt F) (Name := ℕ) (U := UU) where
  st := fun _ d c => bigSep Finset.univ fun s : Fin 16 => tileAt d (m (xLoc d)) (m (iLoc d)) (m (oLoc d)) c.val s.val
  dn := fun _ d c => bigSep Finset.univ fun s : Fin 16 => tileAt d (m (xLoc d)) (m (iLoc d)) (result m hpre d) c.val s.val
  go := fun _ d c s => tileAt d (m (xLoc d)) (m (iLoc d)) (m (oLoc d)) c.val s.val
  td := fun _ d c s => tileAt d (m (xLoc d)) (m (iLoc d)) (result m hpre d) c.val s.val
  x := fun _ _ => iprop(emp)

/-- What a subcore is handed can be carried by a handshake. -/
instance tileAt_storable (d : Dev nD) (xf : Buf (Elt F) (xLoc d)) (idx : Buf (Elt F) (iLoc d)) (f : Buf (Elt F) (oLoc d)) (c s : ℕ) :
    BI.Storable (upEmb : UEmb _ 𝕄) (tileAt d xf idx f c s) := by
  unfold tileAt tilePts; infer_instance

/-- So can all the payloads. -/
instance P_storable : (P m hpre).IsStorable where
  st _ _ _ := by unfold P; infer_instance
  dn _ _ _ := by unfold P; infer_instance
  go _ _ _ _ := by unfold P; infer_instance
  td _ _ _ _ := by unfold P; infer_instance

/-! ## The launch theorem's obligations -/

/-- The body that a vector subcore runs: the kernel's, at its own coordinates. -/
theorem defs₀_vector (c : Fin τ.nSC) (s : Fin τ.nSub) :
    defs₀ (F := F) (.scVector c s) 0 ()
      = SparseCore.onTile hcore0 hsub0 (fun c s => cc0__body (F := F) (coords c s) xW (Memref.isWhole_whole _) iW (Memref.isWhole_whole _) oW (Memref.isWhole_whole _) bI (Memref.isWhole_whole _)
            bA (Memref.isWhole_whole _) bB (Memref.isWhole_whole _) bU (Memref.isWhole_whole _) bV (Memref.isWhole_whole _)
            cc0_scratch5 cc0_scratch6 cc0_scratch7 cc0_scratch8 cc0_scoped0) ⟨⟩ c s := rfl

/-- A task's ending, weakened to the form the launch takes. -/
theorem task_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- In range, the coordinates of the two numbers are the pair itself. -/
theorem co_eq {c s : ℕ} (hc : c < grid0.bound 0) (hs : s < grid0.bound 1) : co c s = coords ⟨c, hc⟩ ⟨s, hs⟩ := by
  unfold co
  congr 1
  · exact Fin.ext (Nat.mod_eq_of_lt hc)
  · exact Fin.ext (Nat.mod_eq_of_lt hs)

/-- Every vector subcore, handed its part of the arrays, runs its task and hands back its rows gathered. -/
theorem tileObl : (K (F := F)).TileObl (D (F := F)) 𝒱 (P m hpre) v₀ 0 := by
  intro d c i O W hO _ _
  simp only [show (P m hpre).ox = fun _ _ => 0 from rfl, add_zero]
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have ht := wp_task (F := F) d (coords ⟨_, hc.1⟩ ⟨_, hc.2⟩) facts (share c.val i.val) (m (xLoc d)) (m (iLoc d)) (m (oLoc d)) (hpre d) O W hO
  have e : (P m hpre).go 0 d c i = tilePts d (coords ⟨_, hc.1⟩ ⟨_, hc.2⟩) (share c.val i.val) (m (xLoc d)) (m (iLoc d)) (m (oLoc d)) :=
    congrArg (fun L => tilePts d L (share c.val i.val) (m (xLoc d)) (m (iLoc d)) (m (oLoc d))) (co_eq hc.1 hc.2)
  have e' : (P m hpre).td 0 d c i = tilePts d (coords ⟨_, hc.1⟩ ⟨_, hc.2⟩) (share c.val i.val) (m (xLoc d)) (m (iLoc d)) (result m hpre d) :=
    congrArg (fun L => tilePts d L (share c.val i.val) (m (xLoc d)) (m (iLoc d)) (result m hpre d)) (co_eq hc.1 hc.2)
  rw [e, e']
  refine BIBase.Entails.trans ?_ (ht.trans (wp_mono frame _ _ fun _ => task_post))
  iintro ⟨Hl, -, Hr⟩
  isplitl [Hl]; · iexact Hl
  iexact Hr

/-- A SparseCore's payload is its subcores' payloads together, going out and coming back. -/
theorem vecSplit : (K (F := F)).VecSplit' (P m hpre) 0 := by
  intro d c
  show (bigSep Finset.univ fun s : Fin 16 => tileAt d (m (xLoc d)) (m (iLoc d)) (m (oLoc d)) c.val s.val : sProp 𝕄) ⊢ |={Set.univ}=> iprop(
      (bigSep Finset.univ fun s : Fin 16 => tileAt d (m (xLoc d)) (m (iLoc d)) (m (oLoc d)) c.val s.val)
      ∗ ((bigSep Finset.univ fun s : Fin 16 => tileAt d (m (xLoc d)) (m (iLoc d)) (result m hpre d) c.val s.val)
          -∗ bigSep Finset.univ fun s : Fin 16 => tileAt d (m (xLoc d)) (m (iLoc d)) (result m hpre d) c.val s.val))
  iintro H; imodintro
  isplitl [H]; · iexact H
  iintro H; iexact H

/-- Any number of empty resources are the empty resource. -/
theorem emps_eq {α : Type} (s : Finset α) : (bigSep s fun _ : α => (iprop(emp) : sProp 𝕄)) = iprop(emp) := bigSep_emp_const s

/-- The launch's ghost element: the handshakes' rounds. -/
def u₀ : UU := (initOf (K (F := F)).hsCells (K (F := F)).hsToks, 1)

/-- The launch element gives the handshakes their rounds. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun th : Thread nD τ => bigSep Finset.univ fun q : Fin 1 => (P m hpre).x q th) := by
  unfold u₀
  iintro Hu
  ihave H := (ownU_pair _ _) $$ Hu
  icases H with ⟨HH, -⟩
  imodintro
  isplitl [HH]; · iexact HH
  isplitr; · rw [emps_eq]; iempintro
  unfold P; dsimp only
  rw [show (bigSep Finset.univ fun _ : Thread nD τ => bigSep Finset.univ fun _ : Fin 1 => (iprop(emp) : sProp 𝕄)) = iprop(emp) from by
    rw [bigSep_congr fun _ _ => emps_eq _, emps_eq]]
  iempintro

/-! ## @main on the TensorCore -/

/-- The TensorCore's arrays are the operand, the indices and the result. -/
theorem arrays_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call hands out is the three arrays whole, as at the launch. -/
theorem st_eq (d : Dev nD) : (bigSep Finset.univ fun c : Fin ((K (F := F)).nCore 0) => (P m hpre).st 0 d c)
    = iprop((iLoc d ↦{fullShare} m (iLoc d)) ∗ (xLoc d ↦{fullShare} m (xLoc d)) ∗ oLoc d ↦{fullShare} m (oLoc d)) := deal d _ _ _
/-- What the call takes back is the three arrays whole, the result gathered. -/
theorem dn_eq (d : Dev nD) : (bigSep Finset.univ fun c : Fin ((K (F := F)).nCore 0) => (P m hpre).dn 0 d c)
    = iprop((iLoc d ↦{fullShare} m (iLoc d)) ∗ (xLoc d ↦{fullShare} m (xLoc d)) ∗ oLoc d ↦{fullShare} result m hpre d) := deal d _ _ _

/-- What the TensorCore ends with: the arguments as they were, the result gathered. -/
abbrev FIN (d : Dev nD) : sProp 𝕄 :=
  iprop((iLoc d ↦{fullShare} m (iLoc d)) ∗ (xLoc d ↦{fullShare} m (xLoc d)) ∗ oLoc d ↦{fullShare} result m hpre d)

/-- The TensorCore's program: one call, which leaves the result gathered. -/
theorem hmain (κ : GSem nD τ sig → ℕ) (d : Dev nD) :
    iprop((K (F := F)).ctx EH (P m hpre) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hpre d ∗ (K (F := F)).tcEnd d) := by
  unfold SparseCore.Cfg.tcRes SparseCore.Cfg.tcEnd
  rw [arrays_eq]
  simp only [main, wp_bind, wp_pure]
  iintro ⟨#Hctx, Hst, ⟨Hb, ⟨Hx, Hi, Ho⟩, Hts, -⟩, -⟩
  iapply ((K (F := F)).wp_run (D (F := F)) 𝒱 (EH := EH) (P := P m hpre) κ d 0) $$ [Hst Hi Hx Ho Hb Hts]
  isplitr; · iexact Hctx
  isplitl [Hst]; · iexact Hst
  isplitl [Hi Hx Ho]
  · rw [st_eq]
    isplitl [Hi]; · iexact Hi
    isplitl [Hx]; · iexact Hx
    iexact Ho
  iintro ⟨Hst, Hdn⟩
  ihave Hdn' := (BIBase.Entails.of_eq (dn_eq m hpre d)) $$ Hdn
  icases Hdn' with ⟨Hi, Hx, Ho⟩
  imodintro
  isplitl [Hst]; · iexact Hst
  isplitr [Hb Hts]
  · isplitl [Hi]; · iexact Hi
    isplitl [Hx]; · iexact Hx
    iexact Ho
  isplitl [Hb] <;> iassumption

/-- The final memory's part on device `d`. -/
def Fin_d (d : Dev nD) (s' : Phys nD τ sig (Elt F)) : Prop :=
  s'.mem.mem (xLoc d) = m (xLoc d) ∧ s'.mem.mem (iLoc d) = m (iLoc d) ∧ s'.mem.mem (oLoc d) = result m hpre d

/-- An array owned whole is what the memory holds. -/
theorem read_off {ℓ : Loc nD τ sig} {f : Buf (Elt F) ℓ} (s' : Phys nD τ sig (Elt F)) :
    iprop(SI s' ∗ ℓ ↦{fullShare} f) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

/-- The ending resources say what the final memory holds. -/
theorem hfin (d : Dev nD) (s' : Phys nD τ sig (Elt F)) : iprop(FIN m hpre d ∗ SI s') ⊢ (⌜Fin_d m hpre d s'⌝ : sProp 𝕄) := by
  iintro ⟨⟨Hi, Hx, Ho⟩, HSI⟩
  ihave H := (read_off (F := F) s') $$ [HSI Hi]
  · isplitl [HSI] <;> iassumption
  icases H with ⟨%h1, HSI⟩
  ihave H := (read_off (F := F) s') $$ [HSI Hx]
  · isplitl [HSI] <;> iassumption
  icases H with ⟨%h2, HSI⟩
  ihave H := (read_off (F := F) s') $$ [HSI Ho]
  · isplitl [HSI] <;> iassumption
  icases H with ⟨%h3, -⟩
  ipureintro; exact ⟨h2, h1, h3⟩

/-! ## The run -/

/-- What the run ends with, on every device. -/
def QC : PUnit × MemSt nD τ sig (Elt F) → Prop := fun r =>
  (∀ c : Dev nD, r.2.mem (xLoc c) = m (xLoc c) ∧ r.2.mem (iLoc c) = m (iLoc c) ∧ r.2.mem (oLoc c) = result m hpre c) ∧ r.2.sem = fun _ => 0

/-- The program runs to the end, leaves its arguments alone, its result gathered, and every semaphore at zero. -/
theorem run_main [∀ e, Nonempty (Elt F e)] :
    θ_run (Cert.KernelIdeal.defs (F := F)) (Cert.KernelIdeal.threads (F := F)) ⟨m, fun _ => 0, ρ⟩ (QC m hpre) :=
  SparseCore.Cfg.θ_run_sc_quiescent (K := K (F := F)) (D := D (F := F)) (𝒱 := 𝒱) (EH := EH) (P := P m hpre) (A := ∅) facts v₀
    (fun q hq => match q with | 0 => nomatch hq)
    (fun q _ => match q with | 0 => tileObl m hpre)
    (fun q _ => match q with | 0 => SparseCore.Cfg.VecSplit.of_plain (vecSplit m hpre))
    m ρ main (fun _ => iprop(emp)) (FIN m hpre) (u₀ (F := F)) (sep_elim_left.trans (hu₀ m hpre)) (hmain m ρ hpre) (Fin_d m hpre) (hfin m hpre) (QC m hpre) (fun _ h hz => ⟨h, hz⟩)

end Cert.Proof.Cols

end
-- ==== Proof.Ref.lean ====
/-
  What the reference computes at indices in range: its guarded gather is the array whose entry `(r, j)` is `x`'s entry at
  row `r` and column `ind[j]`. And what the precondition says of the indices.
-/
module

public import proofs.«01_k».proof.Proof.Copies
public import proofs.«01_k».proof.Proof.Gen.ReferenceIdeal
public import proofs.«01_k».proof.Proof.Gen.ReferenceIdeal.Run
public import proofs.«01_k».proof.Proof.Gen.Pre_in_range
public import Idealize.ShloMosaic.Lib.ReduceAll

@[expose] public section

noncomputable section

namespace Cert.Proof.Cols.Ref

open Idealize.ShloMosaic
open Cert.ReferenceIdeal Cert.ReferenceIdeal.Gen

variable {F : FTy → Type} [FloatOps F]

/-! ## Comparisons of words -/

/-- A truth value's bit is one when it is true. -/
theorem ofBool_one (p : Bool) : BitVec.ofBool p = 1#1 ↔ p = true := by cases p <;> decide

/-- The `and` of two truth values' bits is the bit of their conjunction. -/
theorem and_ofBool (p q : Bool) : IntOp.andi (BitVec.ofBool p) (BitVec.ofBool q) = BitVec.ofBool (p && q) := by cases p <;> cases q <;> decide

/-- A word at least zero and below 8192, both read signed, is below 8192 read unsigned. -/
theorem lt_of_pre (v : BitVec 32) (e : IntOp.andi (IntOp.cmpi .sge v 0#32) (IntOp.cmpi .slt v 8192#32) = 1#1) : v.toNat < 8192 := by
  simp only [IntOp.cmpi, and_ofBool, ofBool_one, Bool.and_eq_true, BitVec.sle_eq_decide, BitVec.slt_eq_decide,
    decide_eq_true_eq, BitVec.toInt_eq_toNat_cond, BitVec.toNat_ofNat, Nat.reducePow, Nat.reduceMod] at e
  omega

/-- An index in range isn't negative. -/
theorem not_neg {v : BitVec 32} (h : v.toNat < 8192) : IntOp.cmpi .slt v 0#32 = 0#1 := by
  have e : BitVec.slt v 0#32 = false := by
    simp only [BitVec.slt_eq_decide, decide_eq_false_iff_not, BitVec.toInt_eq_toNat_cond, BitVec.toNat_ofNat, Nat.reducePow, Nat.reduceMod]
    omega
  show BitVec.ofBool (BitVec.slt v 0#32) = 0#1
  rw [e]; rfl

/-- An index in range passes the reference's own range test. -/
theorem in_bounds {v : BitVec 32} (h : v.toNat < 8192) : IntOp.andi (IntOp.cmpi .sge v 0#32) (IntOp.cmpi .sle v 8191#32) = 1#1 := by
  simp only [IntOp.cmpi, and_ofBool, ofBool_one, Bool.and_eq_true, BitVec.sle_eq_decide,
    decide_eq_true_eq, BitVec.toInt_eq_toNat_cond, BitVec.toNat_ofNat, Nat.reducePow, Nat.reduceMod]
  omega

/-- An index in range is the same number read signed or unsigned. -/
theorem toInt_small {v : BitVec 32} (h : v.toNat < 8192) : v.toInt.toNat = v.toNat := by
  rw [BitVec.toInt_eq_toNat_cond]; simp only [Nat.reducePow]; omega

/-- The precondition: every index names a column. -/
theorem pre_all (x : FVec F S4096x8192 .f32) (ix : IVec S8192 32) (h : Cert.Pre_in_range.fn (F := F) x ix = fun _ => 1#1) (j : S8192.Idx) :
    (ix j).toNat < 8192 := by
  have e := congrFun h (fun a : Fin 0 => a.elim0)
  simp only [Cert.Pre_in_range.fn] at e
  have : Subsingleton Cert.Pre_in_range.S_.Idx := ⟨fun a b => funext fun i => i.elim0⟩
  have ej := Host.reduce_andi_all _ _ _ _ _ e j
  exact lt_of_pre _ ej

/-! ## The gather -/

/-- The reference's gather read at an entry: the operand at the same row and at the column the entry's index names. -/
theorem gather_at {α : Type} (x : S4096x8192.Idx → α) (idx : IVec S8192x1 32) (y : S4096x8192.Idx)
    (i : S8192x1.Idx) (h0 : (i 0).val = (y 1).val) (k : Fin 8192) (hk : (idx i).toNat = k.val) :
    Host.gather gather_S4096x8192_S8192x1_S4096x8192_0_1_n_n_1_1_40961 x idx y = x (ix2 (y 0) k) := by
  have hlt := k.isLt
  generalize hd : gather_S4096x8192_S8192x1_S4096x8192_0_1_n_n_1_1_40961 = d
  have hsim : d.startIndexMap = [1] := by subst hd; rfl
  have hcoll : d.collapsedSliceDims = [1] := by subst hd; rfl
  have hob : d.operandBatchingDims = [] := by subst hd; rfl
  have nb : ∀ a, a ∉ d.operandBatchingDims := fun a => by rw [hob]; exact List.not_mem_nil
  unfold Host.gather
  refine congrArg x (funext fun a => Fin.ext ?_)
  match a with
  | ⟨0, _⟩ =>
    show d.start y idx 0 + d.batchCoord y 0 + d.offCoord y 0 = (y 0).val
    have hm : (0 : Fin 2) ∉ d.startIndexMap := by rw [hsim]; decide
    have hs : (0 : Fin 2) ∈ d.sKept := (d.mem_sKept 0).2 ⟨by rw [hcoll]; decide, nb 0⟩
    rw [d.batchCoord_eq_zero _ _ (nb 0)]
    unfold GatherDims.start GatherDims.offCoord
    rw [dif_neg hm, dif_pos hs]
    subst hd
    simp only [Nat.add_zero, Nat.zero_add]
    rfl
  | ⟨1, _⟩ =>
    show d.start y idx 1 + d.batchCoord y 1 + d.offCoord y 1 = k.val
    have hm : (1 : Fin 2) ∈ d.startIndexMap := by rw [hsim]; decide
    have hs : (1 : Fin 2) ∉ d.sKept := fun h => ((d.mem_sKept 1).1 h).1 (by rw [hcoll]; decide)
    rw [d.batchCoord_eq_zero _ _ (nb 1), d.offCoord_eq_zero _ _ hs]
    unfold GatherDims.start
    rw [dif_pos hm]
    have hi : d.siIdx y ⟨d.startIndexMap.idxOf 1, List.idxOf_lt_length_iff.2 hm⟩ = i := by
      subst hd
      funext b
      match b with
      | ⟨0, _⟩ => exact Fin.ext h0.symm
      | ⟨1, _⟩ => exact Fin.ext (Nat.lt_one_iff.mp (i 1).isLt).symm
    have hv : (idx i).toNat < 8192 := by omega
    rw [hi, toInt_small hv, hk]
    subst hd
    show min k.val (8192 - 1) + 0 + 0 = k.val
    omega

/-! ## The reference's value -/

/-- The indices as the reference first rewrites them: a negative one counts from the end. -/
def wrapped (ix : IVec S8192 32) : IVec S8192 32 :=
  select (cmpi .slt ix (broadcastInDim S8192 ![] bcast_S_S8192 (constantI S_ 32 0#32))) (addi ix (broadcastInDim S8192 ![] bcast_S_S8192 (constantI S_ 32 8192#32))) ix

/-- The rewritten indices as a column. -/
def column (ix : IVec S8192 32) : IVec S8192x1 32 := broadcastInDim S8192x1 ![0] bcast_S8192_S8192x1_0 (wrapped ix)

/-- For every index, whether it is in range. -/
def inside (ix : IVec S8192 32) : IVec S8192 1 :=
  Host.reduce IntOp.andi (andi (cmpi .sge (column ix) (broadcastInDim S8192x1 ![] bcast_S_S8192x1 (constantI S_ 32 0#32)))
    (cmpi .sle (column ix) (broadcastInDim S8192x1 ![0, 1] bcast_S1x1_S8192x1_0_1 (broadcastInDim S1x1 ![1] bcast_S1_S1x1_1 (constantI S1 32 8191#32)))))
    (constantI S_ 1 1#1) reducesTo_S8192x1_S8192_d1 h_S_

/-- The reference's result: the gathered entry where the index is in range, a fill value elsewhere. -/
def taken (x : FVec F S4096x8192 .f32) (ix : IVec S8192 32) : FVec F S4096x8192 .f32 :=
  select (broadcastInDim S4096x8192 ![1] bcast_S8192_S4096x8192_1 (inside ix))
    (Host.gather gather_S4096x8192_S8192x1_S4096x8192_0_1_n_n_1_1_40961 x (column ix))
    (broadcastInDim S4096x8192 ![] bcast_S_S4096x8192 (constant S_ .f32 0x7FC00000#32))

variable {ix : IVec S8192 32}

/-- Indices in range are not rewritten. -/
theorem wrapped_eq (hix : ∀ j, (ix j).toNat < 8192) : wrapped ix = ix := by
  funext j
  show Scalar.select (IntOp.cmpi .slt (ix j) 0#32) _ (ix j) = ix j
  rw [not_neg (hix j)]; rfl

/-- Every entry of the column is an index. -/
theorem column_at (hix : ∀ j, (ix j).toNat < 8192) (i : S8192x1.Idx) : ∃ j, column ix i = ix j := by
  unfold column
  rw [wrapped_eq hix]
  exact ⟨_, rfl⟩

/-- Entry `k` of the column is index `k`. -/
theorem column_ix (hix : ∀ j, (ix j).toNat < 8192) (k : Fin 8192) : column ix (ix2 k (0 : Fin 1)) = ix (ix1 k) := by
  unfold column
  rw [wrapped_eq hix]
  refine congrArg ix (funext fun a => ?_)
  match a with
  | ⟨0, _⟩ => rfl

/-- Every index in range passes the range test. -/
theorem inside_one (hix : ∀ j, (ix j).toNat < 8192) (j : S8192.Idx) : inside ix j = 1#1 := by
  refine Host.reduce_andi_one _ _ _ _ _ rfl fun i => ?_
  obtain ⟨j', e⟩ := column_at hix i
  show IntOp.andi (IntOp.cmpi .sge (column ix i) 0#32) (IntOp.cmpi .sle (column ix i) 8191#32) = 1#1
  rw [e]; exact in_bounds (hix j')

/-- At indices in range the reference's result is the gathered array. -/
theorem taken_eq (x : FVec F S4096x8192 .f32) (hix : ∀ j, (ix j).toNat < 8192) : taken x ix = Cert.Proof.Cols.gathered x ix hix := by
  funext y
  have e : taken x ix y = Scalar.select (inside ix (ix1 (y 1))) (Host.gather gather_S4096x8192_S8192x1_S4096x8192_0_1_n_n_1_1_40961 x (column ix) y)
      (broadcastInDim S4096x8192 ![] bcast_S_S4096x8192 (constant S_ .f32 0x7FC00000#32) y) := by
    unfold taken
    show Scalar.select (inside ix _) _ _ = _
    congr 2
    funext a
    match a with
    | ⟨0, _⟩ => rfl
  rw [e, inside_one hix]
  exact gather_at x (column ix) y (ix2 (y 1) (0 : Fin 1)) rfl ⟨(ix (ix1 (y 1))).toNat, hix _⟩ (congrArg BitVec.toNat (column_ix hix (y 1)))

end Cert.Proof.Cols.Ref

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Gen.ReferenceIdeal.Run
public import proofs.«01_k».proof.Proof.Launch
public import proofs.«01_k».proof.Proof.Ref
public import Idealize.ShloMosaic.Adequacy
public import Idealize.ShloMosaic.Init

@[expose] public section

noncomputable section

namespace Cert.Proof

open Idealize.ShloMosaic Idealize.SL.Sem Cert.Kernel

/-- The precondition on the kernel's arguments puts every index in range. -/
theorem ok_of_pre {m : (ℓ : Loc Cert.KernelIdeal.nD Cert.KernelIdeal.τ Cert.KernelIdeal.sig) → Buf (Elt Ideal) ℓ} (h : Cert.Pre_KernelIdeal m) :
    Cols.PreOK m := fun d j => Cols.Ref.pre_all _ _ (h d) j

/-- The printed kernel runs, at the floats' own words, leaves its arguments alone and every semaphore at zero. -/
theorem frame_kernel : Cert.quiescent_Kernel := fun m ρ h =>
  (θ_run Cert.KernelIdeal.defs _ _).mono (fun _ hq => ⟨fun c => ⟨(hq.1 c).1, (hq.1 c).2.1⟩, hq.2⟩)
    (Cols.run_main (F := Bits) m ρ (fun d j => Cols.Ref.pre_all _ _ (h d) j))

/-- The kernel at the extended reals runs, leaves its arguments alone and every semaphore at zero. -/
theorem frame_ideal : Cert.quiescent_KernelIdeal := fun m ρ h =>
  (θ_run Cert.KernelIdeal.defs _ _).mono (fun _ hq => ⟨fun c => ⟨(hq.1 c).1, (hq.1 c).2.1⟩, hq.2⟩)
    (Cols.run_main (F := Ideal) m ρ (ok_of_pre h))

/-- The reference runs and leaves its arguments alone; it has no semaphore. -/
theorem frame_reference : Cert.quiescent_ReferenceIdeal := fun m ρ _ =>
  (θ_run Cert.ReferenceIdeal.defs _ _).mono (fun r hq => ⟨fun c => (hq c).2, sem_eq_zero_of_no_sems (by decide) r.2⟩)
    (Cert.ReferenceIdeal.Value.run (F := Ideal) m ρ)

/-- From the same arguments, the indices in range, the kernel and the reference leave the same array: entry `(r, j)` is the
    operand's entry at row `r` and column `ind[j]`. -/
theorem same_result : Cert.algebraic_KernelIdeal_ReferenceIdeal := by
  intro m ρ m' ρ' h hagree
  refine ⟨fun c => Cols.result m (ok_of_pre h) c,
    (θ_run Cert.KernelIdeal.defs _ _).mono (fun _ hq c => ⟨(hq.1 c).2.2, (hq.1 c).1, (hq.1 c).2.1⟩) (Cols.run_main (F := Ideal) m ρ (ok_of_pre h)),
    (θ_run Cert.ReferenceIdeal.defs _ _).mono (fun _ hq c => ⟨(hq c).1.trans ?_, (hq c).2⟩) (Cert.ReferenceIdeal.Value.run (F := Ideal) m' ρ')⟩
  rw [(hagree c).1, (hagree c).2]
  exact Cols.Ref.taken_eq (F := Ideal) (m (Cols.xLoc c)) (ok_of_pre h c)

/-- All the claims. -/
theorem claim : Cert.Claim := ⟨Cert.Kernel.Gen.facts, Cert.KernelIdeal.Gen.facts, Cert.ReferenceIdeal.Gen.facts, Cert.Pre_in_range.Gen.facts,
  frame_kernel, frame_ideal, frame_reference, trivial, same_result⟩

end Cert.Proof

end
